-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x128 : Shape := ⟨3, ![16, 4096, 128]⟩
abbrev S128x128 : Shape := ⟨2, ![128, 128]⟩
abbrev S4096x128 : Shape := ⟨2, ![4096, 128]⟩
abbrev S_ : Shape := ⟨0, ![]⟩
abbrev S128 : Shape := ⟨1, ![128]⟩
abbrev S128x1 : Shape := ⟨2, ![128, 1]⟩
abbrev S128x4096 : Shape := ⟨2, ![128, 4096]⟩
abbrev S8x4096 : Shape := ⟨2, ![8, 4096]⟩
abbrev S16x128x4096 : Shape := ⟨3, ![16, 128, 4096]⟩
abbrev S1x4096x128 : Shape := ⟨3, ![1, 4096, 128]⟩
abbrev S1x128x4096 : Shape := ⟨3, ![1, 128, 4096]⟩
abbrev S2048x4096 : Shape := ⟨2, ![2048, 4096]⟩
abbrev S16x524288 : Shape := ⟨2, ![16, 524288]⟩
abbrev S4096 : Shape := ⟨1, ![4096]⟩
abbrev S1x4096 : Shape := ⟨2, ![1, 4096]⟩
abbrev S1x1x4096 : Shape := ⟨3, ![1, 1, 4096]⟩
abbrev S16 : Shape := ⟨1, ![16]⟩

abbrev nBuf : Table → Nat
  | .hbm => 17
  | .local .tc .vmem => 16
  | .local .scVector .vmem => 4
  | _ => 0

abbrev bufTy : (tb : Table) → Fin (nBuf tb) → BufTy
  | .hbm, ⟨0, _⟩ => ⟨S16x4096x128, .f32⟩
  | .hbm, ⟨1, _⟩ => ⟨S128x128, .f32⟩
  | .hbm, ⟨2, _⟩ => ⟨S4096x128, .f32⟩
  | .hbm, ⟨3, _⟩ => ⟨S128x128, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S128x128, .f32⟩
  | .hbm, ⟨9, _⟩ => ⟨S128x128, .f32⟩
  | .hbm, ⟨10, _⟩ => ⟨S128x4096, .f32⟩
  | .hbm, ⟨11, _⟩ => ⟨S128x4096, .i32⟩
  | .hbm, ⟨12, _⟩ => ⟨S16x128x4096, .f32⟩
  | .hbm, ⟨13, _⟩ => ⟨S2048x4096, .f32⟩
  | .hbm, ⟨14, _⟩ => ⟨S2048x4096, .f32⟩
  | .hbm, ⟨15, _⟩ => ⟨S16x128x4096, .f32⟩
  | .hbm, ⟨16, _⟩ => ⟨S16x524288, .f32⟩
  | .local .tc .vmem, ⟨0, _⟩ => ⟨S128x128, .f32⟩
  | .local .tc .vmem, ⟨1, _⟩ => ⟨S4096x128, .f32⟩
  | .local .tc .vmem, ⟨2, _⟩ => ⟨S128x4096, .f32⟩
  | .local .tc .vmem, ⟨3, _⟩ => ⟨S8x4096, .f32⟩
  | .local .tc .vmem, ⟨4, _⟩ => ⟨S8x4096, .f32⟩
  | .local .tc .vmem, ⟨5, _⟩ => ⟨S8x4096, .i32⟩
  | .local .tc .vmem, ⟨6, _⟩ => ⟨S8x4096, .i32⟩
  | .local .tc .vmem, ⟨7, _⟩ => ⟨S1x4096x128, .f32⟩
  | .local .tc .vmem, ⟨8, _⟩ => ⟨S1x4096x128, .f32⟩
  | .local .tc .vmem, ⟨9, _⟩ => ⟨S128x128, .f32⟩
  | .local .tc .vmem, ⟨10, _⟩ => ⟨S1x128x4096, .f32⟩
  | .local .tc .vmem, ⟨11, _⟩ => ⟨S1x128x4096, .f32⟩
  | .local .tc .vmem, ⟨12, _⟩ => ⟨S8x4096, .f32⟩
  | .local .tc .vmem, ⟨13, _⟩ => ⟨S8x4096, .f32⟩
  | .local .tc .vmem, ⟨14, _⟩ => ⟨S8x4096, .f32⟩
  | .local .tc .vmem, ⟨15, _⟩ => ⟨S8x4096, .f32⟩
  | .local .scVector .vmem, ⟨0, _⟩ => ⟨S4096, .i32⟩
  | .local .scVector .vmem, ⟨1, _⟩ => ⟨S4096, .f32⟩
  | .local .scVector .vmem, ⟨2, _⟩ => ⟨S4096, .f32⟩
  | .local .scVector .vmem, ⟨3, _⟩ => ⟨S4096, .f32⟩
  | _, _ => ⟨S16x4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v8_scv : Ref sig .scVector := ⟨.hbm, 15, rfl⟩
abbrev main_v3_scv : Ref sig .scVector := ⟨.hbm, 10, rfl⟩
abbrev main_v4_scv : Ref sig .scVector := ⟨.hbm, 11, rfl⟩
abbrev main_v9_scv : Ref sig .scVector := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg2_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_scratch0 : Ref sig .scVector := ⟨.vmem, 0, rfl⟩
abbrev cc4_scratch1 : Ref sig .scVector := ⟨.vmem, 1, rfl⟩
abbrev cc4_scratch2 : Ref sig .scVector := ⟨.vmem, 2, rfl⟩
abbrev cc4_scratch3 : Ref sig .scVector := ⟨.vmem, 3, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc2_sem0_0 : DmaSem sig := 7
abbrev cc2_sem0_1 : DmaSem sig := 8
abbrev cc2_sem1_0 : DmaSem sig := 9
abbrev cc2_sem2_0 : DmaSem sig := 10
abbrev cc2_sem2_1 : DmaSem sig := 11
abbrev cc3_sem0_0 : DmaSem sig := 12
abbrev cc3_sem0_1 : DmaSem sig := 13
abbrev cc3_sem1_0 : DmaSem sig := 14
abbrev cc3_sem1_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![16], ![false]⟩

@[reducible] def k1_t1_loop : Scf.Loop 32 :=
  let c0_i32 : BitVec 32 := 0#32
  let c78_i32 : BitVec 32 := 78#32
  let v3 : BitVec 32 := Scalar.addi c0_i32 c78_i32
  let c1_i32_1 : BitVec 32 := 1#32
  ⟨c0_i32, v3, c1_i32_1⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x128x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![256], ![false]⟩

@[reducible] def k3_t1_loop : Scf.Loop 32 :=
  let c0_i32 : BitVec 32 := 0#32
  let c78_i32 : BitVec 32 := 78#32
  let v3 : BitVec 32 := Scalar.addi c0_i32 c78_i32
  let c1_i32_1 : BitVec 32 := 1#32
  ⟨c0_i32, v3, c1_i32_1⟩
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨2, ![2, 16], ![false, false]⟩

def k4_off1 (i : grid4.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c0_i32_23_r0 : BitVec 32 := 0#32
  ![v3.toNat, 0]
@[reducible] def k4_t1_loop : Scf.Loop 32 :=
  let c0_i32_1 : BitVec 32 := 0#32
  let c16_i32 : BitVec 32 := 16#32
  let v4 : BitVec 32 := Scalar.addi c0_i32_1 c16_i32
  let c1_i32 : BitVec 32 := 1#32
  ⟨c0_i32_1, v4, c1_i32⟩
def k4_off2 (i : grid4.Coords) (k4_t1 : Fin k4_t1_loop.trips) : Fin 3 → Nat :=
  let c0_i32_1 : BitVec 32 := 0#32
  let c1_i32 : BitVec 32 := 1#32
  let arg10 : BitVec 32 := Scf.iv c0_i32_1 c1_i32 k4_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32 : BitVec 32 := 0#32
  let v3 : BitVec 32 := Scalar.addi v2 c0_i32
  let c0_i32_28_r2 : BitVec 32 := 0#32
  ![arg10.toNat, v3.toNat, 0]
@[reducible] def k4_t2_loop : Scf.Loop 32 :=
  let c0_i32_24 : BitVec 32 := 0#32
  let c256_i32 : BitVec 32 := 256#32
  let v18 : BitVec 32 := Scalar.addi c0_i32_24 c256_i32
  let c1_i32_25 : BitVec 32 := 1#32
  ⟨c0_i32_24, v18, c1_i32_25⟩
def k4_off3 (k4_t2 : Fin k4_t2_loop.trips) : Fin 1 → Nat :=
  let c0_i32_24 : BitVec 32 := 0#32
  let c1_i32_25 : BitVec 32 := 1#32
  let arg12 : BitVec 32 := Scf.iv c0_i32_24 c1_i32_25 k4_t2
  let c16_i32_28 : BitVec 32 := 16#32
  let v21 : BitVec 32 := Scalar.muli arg12 c16_i32_28
  let v22 : Index := Scalar.indexCast v21
  ![v22.toNat]

def k4_chk1 (v23 : IVec S16 32) : Prop :=
  (∀ a x, ((![v23] : Fin 1 → IVec S16 32) a x).toNat < S4096.size a)
theorem k4_idx1_inb : ∀ (v23 : IVec S16 32) (k4_hw1 : k4_chk1 v23), ∀ a x, ((![v23] : Fin 1 → IVec S16 32) a x).toNat < S4096.size a := fun v23 k4_hw1 => k4_hw1
def k4_off4 (k4_t2 : Fin k4_t2_loop.trips) : Fin 1 → Nat :=
  let c0_i32_24 : BitVec 32 := 0#32
  let c1_i32_25 : BitVec 32 := 1#32
  let arg12 : BitVec 32 := Scf.iv c0_i32_24 c1_i32_25 k4_t2
  let c16_i32_29 : BitVec 32 := 16#32
  let v25 : BitVec 32 := Scalar.muli arg12 c16_i32_29
  let v26 : Index := Scalar.indexCast v25
  ![v26.toNat]
def k4_off5 (i : grid4.Coords) (k4_t1 : Fin k4_t1_loop.trips) : Fin 2 → Nat :=
  let c0_i32_1 : BitVec 32 := 0#32
  let c1_i32 : BitVec 32 := 1#32
  let arg10 : BitVec 32 := Scf.iv c0_i32_1 c1_i32 k4_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32 : BitVec 32 := 0#32
  let v3 : BitVec 32 := Scalar.addi v2 c0_i32
  let c4096_i32 : BitVec 32 := 4096#32
  let v20 : BitVec 32 := Scalar.muli v3 c4096_i32
  ![arg10.toNat, v20.toNat]
@[reducible] def k4_t3_loop : Scf.Loop 32 :=
  let c0_i32_6 : BitVec 32 := 0#32
  let c16_i32_7 : BitVec 32 := 16#32
  let v8 : BitVec 32 := Scalar.addi c0_i32_6 c16_i32_7
  let c1_i32_8 : BitVec 32 := 1#32
  ⟨c0_i32_6, v8, c1_i32_8⟩
def k4_off6 (i : grid4.Coords) (k4_t3 : Fin k4_t3_loop.trips) : Fin 3 → Nat :=
  let c0_i32_6 : BitVec 32 := 0#32
  let c1_i32_8 : BitVec 32 := 1#32
  let arg10 : BitVec 32 := Scf.iv c0_i32_6 c1_i32_8 k4_t3
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_3 : BitVec 32 := 4#32
  let v6 : BitVec 32 := Scalar.muli v1 c4_i32_3
  let c1_i32_4 : BitVec 32 := 1#32
  let v7 : BitVec 32 := Scalar.addi v6 c1_i32_4
  let c0_i32_28_r6 : BitVec 32 := 0#32
  ![arg10.toNat, v7.toNat, 0]
@[reducible] def k4_t4_loop : Scf.Loop 32 :=
  let c0_i32_24 : BitVec 32 := 0#32
  let c256_i32 : BitVec 32 := 256#32
  let v18 : BitVec 32 := Scalar.addi c0_i32_24 c256_i32
  let c1_i32_25 : BitVec 32 := 1#32
  ⟨c0_i32_24, v18, c1_i32_25⟩
def k4_off7 (k4_t4 : Fin k4_t4_loop.trips) : Fin 1 → Nat :=
  let c0_i32_24 : BitVec 32 := 0#32
  let c1_i32_25 : BitVec 32 := 1#32
  let arg12 : BitVec 32 := Scf.iv c0_i32_24 c1_i32_25 k4_t4
  let c16_i32_28 : BitVec 32 := 16#32
  let v21 : BitVec 32 := Scalar.muli arg12 c16_i32_28
  let v22 : Index := Scalar.indexCast v21
  ![v22.toNat]

def k4_chk2 (v23 : IVec S16 32) : Prop :=
  (∀ a x, ((![v23] : Fin 1 → IVec S16 32) a x).toNat < S4096.size a)
theorem k4_idx2_inb : ∀ (v23 : IVec S16 32) (k4_hw2 : k4_chk2 v23), ∀ a x, ((![v23] : Fin 1 → IVec S16 32) a x).toNat < S4096.size a := fun v23 k4_hw2 => k4_hw2
def k4_off8 (k4_t4 : Fin k4_t4_loop.trips) : Fin 1 → Nat :=
  let c0_i32_24 : BitVec 32 := 0#32
  let c1_i32_25 : BitVec 32 := 1#32
  let arg12 : BitVec 32 := Scf.iv c0_i32_24 c1_i32_25 k4_t4
  let c16_i32_29 : BitVec 32 := 16#32
  let v25 : BitVec 32 := Scalar.muli arg12 c16_i32_29
  let v26 : Index := Scalar.indexCast v25
  ![v26.toNat]
def k4_off9 (i : grid4.Coords) (k4_t3 : Fin k4_t3_loop.trips) : Fin 2 → Nat :=
  let c0_i32_6 : BitVec 32 := 0#32
  let c1_i32_8 : BitVec 32 := 1#32
  let arg10 : BitVec 32 := Scf.iv c0_i32_6 c1_i32_8 k4_t3
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_3 : BitVec 32 := 4#32
  let v6 : BitVec 32 := Scalar.muli v1 c4_i32_3
  let c1_i32_4 : BitVec 32 := 1#32
  let v7 : BitVec 32 := Scalar.addi v6 c1_i32_4
  let c4096_i32 : BitVec 32 := 4096#32
  let v20 : BitVec 32 := Scalar.muli v7 c4096_i32
  ![arg10.toNat, v20.toNat]
@[reducible] def k4_t5_loop : Scf.Loop 32 :=
  let c0_i32_13 : BitVec 32 := 0#32
  let c16_i32_14 : BitVec 32 := 16#32
  let v12 : BitVec 32 := Scalar.addi c0_i32_13 c16_i32_14
  let c1_i32_15 : BitVec 32 := 1#32
  ⟨c0_i32_13, v12, c1_i32_15⟩
def k4_off10 (i : grid4.Coords) (k4_t5 : Fin k4_t5_loop.trips) : Fin 3 → Nat :=
  let c0_i32_13 : BitVec 32 := 0#32
  let c1_i32_15 : BitVec 32 := 1#32
  let arg10 : BitVec 32 := Scf.iv c0_i32_13 c1_i32_15 k4_t5
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_10 : BitVec 32 := 4#32
  let v10 : BitVec 32 := Scalar.muli v1 c4_i32_10
  let c2_i32_11 : BitVec 32 := 2#32
  let v11 : BitVec 32 := Scalar.addi v10 c2_i32_11
  let c0_i32_28_r10 : BitVec 32 := 0#32
  ![arg10.toNat, v11.toNat, 0]
@[reducible] def k4_t6_loop : Scf.Loop 32 :=
  let c0_i32_24 : BitVec 32 := 0#32
  let c256_i32 : BitVec 32 := 256#32
  let v18 : BitVec 32 := Scalar.addi c0_i32_24 c256_i32
  let c1_i32_25 : BitVec 32 := 1#32
  ⟨c0_i32_24, v18, c1_i32_25⟩
def k4_off11 (k4_t6 : Fin k4_t6_loop.trips) : Fin 1 → Nat :=
  let c0_i32_24 : BitVec 32 := 0#32
  let c1_i32_25 : BitVec 32 := 1#32
  let arg12 : BitVec 32 := Scf.iv c0_i32_24 c1_i32_25 k4_t6
  let c16_i32_28 : BitVec 32 := 16#32
  let v21 : BitVec 32 := Scalar.muli arg12 c16_i32_28
  let v22 : Index := Scalar.indexCast v21
  ![v22.toNat]

def k4_chk3 (v23 : IVec S16 32) : Prop :=
  (∀ a x, ((![v23] : Fin 1 → IVec S16 32) a x).toNat < S4096.size a)
theorem k4_idx3_inb : ∀ (v23 : IVec S16 32) (k4_hw3 : k4_chk3 v23), ∀ a x, ((![v23] : Fin 1 → IVec S16 32) a x).toNat < S4096.size a := fun v23 k4_hw3 => k4_hw3
def k4_off12 (k4_t6 : Fin k4_t6_loop.trips) : Fin 1 → Nat :=
  let c0_i32_24 : BitVec 32 := 0#32
  let c1_i32_25 : BitVec 32 := 1#32
  let arg12 : BitVec 32 := Scf.iv c0_i32_24 c1_i32_25 k4_t6
  let c16_i32_29 : BitVec 32 := 16#32
  let v25 : BitVec 32 := Scalar.muli arg12 c16_i32_29
  let v26 : Index := Scalar.indexCast v25
  ![v26.toNat]
def k4_off13 (i : grid4.Coords) (k4_t5 : Fin k4_t5_loop.trips) : Fin 2 → Nat :=
  let c0_i32_13 : BitVec 32 := 0#32
  let c1_i32_15 : BitVec 32 := 1#32
  let arg10 : BitVec 32 := Scf.iv c0_i32_13 c1_i32_15 k4_t5
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_10 : BitVec 32 := 4#32
  let v10 : BitVec 32 := Scalar.muli v1 c4_i32_10
  let c2_i32_11 : BitVec 32 := 2#32
  let v11 : BitVec 32 := Scalar.addi v10 c2_i32_11
  let c4096_i32 : BitVec 32 := 4096#32
  let v20 : BitVec 32 := Scalar.muli v11 c4096_i32
  ![arg10.toNat, v20.toNat]
@[reducible] def k4_t7_loop : Scf.Loop 32 :=
  let c0_i32_19 : BitVec 32 := 0#32
  let c16_i32_20 : BitVec 32 := 16#32
  let v16 : BitVec 32 := Scalar.addi c0_i32_19 c16_i32_20
  let c1_i32_21 : BitVec 32 := 1#32
  ⟨c0_i32_19, v16, c1_i32_21⟩
def k4_off14 (i : grid4.Coords) (k4_t7 : Fin k4_t7_loop.trips) : Fin 3 → Nat :=
  let c0_i32_19 : BitVec 32 := 0#32
  let c1_i32_21 : BitVec 32 := 1#32
  let arg10 : BitVec 32 := Scf.iv c0_i32_19 c1_i32_21 k4_t7
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_17 : BitVec 32 := 4#32
  let v14 : BitVec 32 := Scalar.muli v1 c4_i32_17
  let c3_i32 : BitVec 32 := 3#32
  let v15 : BitVec 32 := Scalar.addi v14 c3_i32
  let c0_i32_28_r14 : BitVec 32 := 0#32
  ![arg10.toNat, v15.toNat, 0]
@[reducible] def k4_t8_loop : Scf.Loop 32 :=
  let c0_i32_24 : BitVec 32 := 0#32
  let c256_i32 : BitVec 32 := 256#32
  let v18 : BitVec 32 := Scalar.addi c0_i32_24 c256_i32
  let c1_i32_25 : BitVec 32 := 1#32
  ⟨c0_i32_24, v18, c1_i32_25⟩
def k4_off15 (k4_t8 : Fin k4_t8_loop.trips) : Fin 1 → Nat :=
  let c0_i32_24 : BitVec 32 := 0#32
  let c1_i32_25 : BitVec 32 := 1#32
  let arg12 : BitVec 32 := Scf.iv c0_i32_24 c1_i32_25 k4_t8
  let c16_i32_28 : BitVec 32 := 16#32
  let v21 : BitVec 32 := Scalar.muli arg12 c16_i32_28
  let v22 : Index := Scalar.indexCast v21
  ![v22.toNat]

def k4_chk4 (v23 : IVec S16 32) : Prop :=
  (∀ a x, ((![v23] : Fin 1 → IVec S16 32) a x).toNat < S4096.size a)
theorem k4_idx4_inb : ∀ (v23 : IVec S16 32) (k4_hw4 : k4_chk4 v23), ∀ a x, ((![v23] : Fin 1 → IVec S16 32) a x).toNat < S4096.size a := fun v23 k4_hw4 => k4_hw4
def k4_off16 (k4_t8 : Fin k4_t8_loop.trips) : Fin 1 → Nat :=
  let c0_i32_24 : BitVec 32 := 0#32
  let c1_i32_25 : BitVec 32 := 1#32
  let arg12 : BitVec 32 := Scf.iv c0_i32_24 c1_i32_25 k4_t8
  let c16_i32_29 : BitVec 32 := 16#32
  let v25 : BitVec 32 := Scalar.muli arg12 c16_i32_29
  let v26 : Index := Scalar.indexCast v25
  ![v26.toNat]
def k4_off17 (i : grid4.Coords) (k4_t7 : Fin k4_t7_loop.trips) : Fin 2 → Nat :=
  let c0_i32_19 : BitVec 32 := 0#32
  let c1_i32_21 : BitVec 32 := 1#32
  let arg10 : BitVec 32 := Scf.iv c0_i32_19 c1_i32_21 k4_t7
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_17 : BitVec 32 := 4#32
  let v14 : BitVec 32 := Scalar.muli v1 c4_i32_17
  let c3_i32 : BitVec 32 := 3#32
  let v15 : BitVec 32 := Scalar.addi v14 c3_i32
  let c4096_i32 : BitVec 32 := 4096#32
  let v20 : BitVec 32 := Scalar.muli v15 c4096_i32
  ![arg10.toNat, v20.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x128 : Shape := ⟨3, ![16, 4096, 128]⟩
abbrev S128x128 : Shape := ⟨2, ![128, 128]⟩
abbrev S4096x128 : Shape := ⟨2, ![4096, 128]⟩
abbrev S_ : Shape := ⟨0, ![]⟩
abbrev S128 : Shape := ⟨1, ![128]⟩
abbrev S128x1 : Shape := ⟨2, ![128, 1]⟩
abbrev S1x4096x128 : Shape := ⟨3, ![1, 4096, 128]⟩
abbrev S16x4096x128x1 : Shape := ⟨4, ![16, 4096, 128, 1]⟩
abbrev S1 : Shape := ⟨1, ![1]⟩
abbrev S1x1x1x1 : Shape := ⟨4, ![1, 1, 1, 1]⟩
abbrev S16x128x4096 : Shape := ⟨3, ![16, 128, 4096]⟩
abbrev S16x524288 : Shape := ⟨2, ![16, 524288]⟩

abbrev nBuf : Space → Nat
  | .hbm => 44
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S128x128, .f32⟩
  | .hbm, ⟨2, _⟩ => ⟨S4096x128, .f32⟩
  | .hbm, ⟨3, _⟩ => ⟨S128x128, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S128x128, .f32⟩
  | .hbm, ⟨9, _⟩ => ⟨S128x128, .f32⟩
  | .hbm, ⟨10, _⟩ => ⟨S16x4096x128, .f32⟩
  | .hbm, ⟨11, _⟩ => ⟨S16x4096x128, .f32⟩
  | .hbm, ⟨12, _⟩ => ⟨S128x128, .f32⟩
  | .hbm, ⟨13, _⟩ => ⟨S4096x128, .f32⟩
  | .hbm, ⟨14, _⟩ => ⟨S1x4096x128, .f32⟩
  | .hbm, ⟨15, _⟩ => ⟨S16x4096x128, .f32⟩
  | .hbm, ⟨16, _⟩ => ⟨S16x4096x128, .i32⟩
  | .hbm, ⟨17, _⟩ => ⟨S16x4096x128, .f32⟩
  | .hbm, ⟨18, _⟩ => ⟨S16x4096x128, .i32⟩
  | .hbm, ⟨19, _⟩ => ⟨S_, .i32⟩
  | .hbm, ⟨20, _⟩ => ⟨S16x4096x128, .i32⟩
  | .hbm, ⟨21, _⟩ => ⟨S16x4096x128, .i1⟩
  | .hbm, ⟨22, _⟩ => ⟨S_, .i32⟩
  | .hbm, ⟨23, _⟩ => ⟨S16x4096x128, .i32⟩
  | .hbm, ⟨24, _⟩ => ⟨S16x4096x128, .i32⟩
  | .hbm, ⟨25, _⟩ => ⟨S16x4096x128, .i32⟩
  | .hbm, ⟨26, _⟩ => ⟨S16x4096x128x1, .i32⟩
  | .hbm, ⟨27, _⟩ => ⟨S1, .i32⟩
  | .hbm, ⟨28, _⟩ => ⟨S_, .i32⟩
  | .hbm, ⟨29, _⟩ => ⟨S16x4096x128x1, .i32⟩
  | .hbm, ⟨30, _⟩ => ⟨S16x4096x128x1, .i1⟩
  | .hbm, ⟨31, _⟩ => ⟨S1x1x1x1, .i32⟩
  | .hbm, ⟨32, _⟩ => ⟨S16x4096x128x1, .i32⟩
  | .hbm, ⟨33, _⟩ => ⟨S16x4096x128x1, .i1⟩
  | .hbm, ⟨34, _⟩ => ⟨S16x4096x128x1, .i1⟩
  | .hbm, ⟨35, _⟩ => ⟨S_, .i1⟩
  | .hbm, ⟨36, _⟩ => ⟨S16x4096x128, .i1⟩
  | .hbm, ⟨37, _⟩ => ⟨S16x4096x128, .f32⟩
  | .hbm, ⟨38, _⟩ => ⟨S_, .f32⟩
  | .hbm, ⟨39, _⟩ => ⟨S16x4096x128, .f32⟩
  | .hbm, ⟨40, _⟩ => ⟨S16x4096x128, .f32⟩
  | .hbm, ⟨41, _⟩ => ⟨S16x4096x128, .f32⟩
  | .hbm, ⟨42, _⟩ => ⟨S16x128x4096, .f32⟩
  | .hbm, ⟨43, _⟩ => ⟨S16x524288, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call2_v0 : Ref sig .tc := ⟨.hbm, 16, rfl⟩
abbrev main_call2_v1_0 : Ref sig .tc := ⟨.hbm, 17, rfl⟩
abbrev main_v9 : Ref sig .tc := ⟨.hbm, 18, rfl⟩
abbrev main_call3_c : Ref sig .tc := ⟨.hbm, 19, rfl⟩
abbrev main_call3_v0 : Ref sig .tc := ⟨.hbm, 20, rfl⟩
abbrev main_call3_v1 : Ref sig .tc := ⟨.hbm, 21, rfl⟩
abbrev main_call3_c_0 : Ref sig .tc := ⟨.hbm, 22, rfl⟩
abbrev main_call3_v2 : Ref sig .tc := ⟨.hbm, 23, rfl⟩
abbrev main_call3_v3 : Ref sig .tc := ⟨.hbm, 24, rfl⟩
abbrev main_call3_v4 : Ref sig .tc := ⟨.hbm, 25, rfl⟩
abbrev main_call3_v5 : Ref sig .tc := ⟨.hbm, 26, rfl⟩
abbrev main_call3_c_1 : Ref sig .tc := ⟨.hbm, 27, rfl⟩
abbrev main_call3_c_2 : Ref sig .tc := ⟨.hbm, 28, rfl⟩
abbrev main_call3_v6 : Ref sig .tc := ⟨.hbm, 29, rfl⟩
abbrev main_call3_v7 : Ref sig .tc := ⟨.hbm, 30, rfl⟩
abbrev main_call3_v8 : Ref sig .tc := ⟨.hbm, 31, rfl⟩
abbrev main_call3_v9 : Ref sig .tc := ⟨.hbm, 32, rfl⟩
abbrev main_call3_v10 : Ref sig .tc := ⟨.hbm, 33, rfl⟩
abbrev main_call3_v11 : Ref sig .tc := ⟨.hbm, 34, rfl⟩
abbrev main_call3_c_3 : Ref sig .tc := ⟨.hbm, 35, rfl⟩
abbrev main_call3_v12 : Ref sig .tc := ⟨.hbm, 36, rfl⟩
abbrev main_call3_v13 : Ref sig .tc := ⟨.hbm, 37, rfl⟩
abbrev main_call3_cst : Ref sig .tc := ⟨.hbm, 38, rfl⟩
abbrev main_call3_v14 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩

abbrev nD : Nat := 1
abbrev τ : Topo := Topo.v7x

variable {F : FTy → Type} [FloatOps F]
-- ==== Proof.Network.lean ====
/- The bitonic sorting network over the lanes of a row: one compare-exchange pass, the passes in order, and the
   fact that they sort. Rows are functions on ℕ: a pass pairs lane `i` with lane `i ^^^ 2 ^ a`, so the lanes below
   `2 ^ n` only ever meet each other. The proof is the 0-1 principle: a pass commutes with monotone maps, so it is
   enough to sort rows of truth values, where a merge is the half-cleaner's argument on two-change sequences. -/
module

public import Mathlib.Data.Nat.Bitwise
public import Mathlib.Data.List.Sort
public import Mathlib.Data.List.FinRange
public import Mathlib.Logic.Equiv.Basic
public import Mathlib.Tactic.Ring
public import Mathlib.Tactic.NormNum

@[expose] public section

namespace Cert.Network

/-- One compare-exchange pass at distance `2 ^ a` inside blocks of `2 ^ b`, by the relation `lt` ("the first comes
    strictly before the second"). A lane wants the smaller of its pair when its `a`-th and `b`-th bits agree. -/
def pass {β : Type} (lt : β → β → Bool) (a b : ℕ) (f : ℕ → β) : ℕ → β := fun i =>
  if lt (f (i ^^^ 2 ^ a)) (f i) == (i.testBit a == i.testBit b) then f (i ^^^ 2 ^ a) else f i

/-- Every lane of a pass holds what one of the two lanes of its pair held. -/
theorem pass_mem {β : Type} (lt : β → β → Bool) (a b : ℕ) (f : ℕ → β) (i : ℕ) :
    pass lt a b f i = f (i ^^^ 2 ^ a) ∨ pass lt a b f i = f i := by
  unfold pass; split
  · exact Or.inl rfl
  · exact Or.inr rfl

/-- The passes of a stage of blocks of `2 ^ b`: distances `2 ^ (c - 1)` down to `1`. -/
def merge {β : Type} (lt : β → β → Bool) (b : ℕ) : ℕ → (ℕ → β) → ℕ → β
  | 0, f => f
  | c + 1, f => merge lt b c (pass lt c b f)

/-- The stages of blocks of `2`, `4`, …, `2 ^ n`. -/
def sorted {β : Type} (lt : β → β → Bool) : ℕ → (ℕ → β) → ℕ → β
  | 0, f => f
  | n + 1, f => merge lt (n + 1) (n + 1) (sorted lt n f)

section lanes

theorem xor_lt {n a i : ℕ} (ha : a < n) (hi : i < 2 ^ n) : i ^^^ 2 ^ a < 2 ^ n :=
  Nat.xor_lt_two_pow hi (Nat.pow_lt_pow_right (by norm_num) ha)

theorem xor_xor (i a : ℕ) : (i ^^^ 2 ^ a) ^^^ 2 ^ a = i := by
  rw [Nat.xor_assoc, Nat.xor_self, Nat.xor_zero]

theorem testBit_xor_self (i a : ℕ) : (i ^^^ 2 ^ a).testBit a = !i.testBit a := by
  rw [Nat.testBit_xor, Nat.testBit_two_pow_self]; simp

theorem testBit_xor_ne {i a b : ℕ} (h : a ≠ b) : (i ^^^ 2 ^ a).testBit b = i.testBit b := by
  rw [Nat.testBit_xor, Nat.testBit_two_pow_of_ne h]; simp

/-- The number of a lane's block: pairs at distance `2 ^ a` lie in one block of `2 ^ c` for `a < c`. -/
theorem xor_div {i a c : ℕ} (h : a < c) : (i ^^^ 2 ^ a) / 2 ^ c = i / 2 ^ c := by
  apply Nat.eq_of_testBit_eq
  intro k
  rw [Nat.testBit_div_two_pow, Nat.testBit_div_two_pow]
  exact testBit_xor_ne (by omega)

/-- The partner of a lane whose bit is clear lies above it, the partner of one whose bit is set below it. -/
theorem xor_of_clear {i a : ℕ} (h : i.testBit a = false) : i ^^^ 2 ^ a = i + 2 ^ a := by
  have h1 : (i ^^^ 2 ^ a) / 2 ^ (a + 1) = i / 2 ^ (a + 1) := xor_div (by omega)
  have h2 : (i ^^^ 2 ^ a) % 2 ^ a = i % 2 ^ a := by
    apply Nat.eq_of_testBit_eq
    intro k
    rw [Nat.testBit_mod_two_pow, Nat.testBit_mod_two_pow]
    by_cases hk : k < a
    · rw [testBit_xor_ne (show a ≠ k by omega)]
    · simp [hk]
  have h3 : (i ^^^ 2 ^ a) / 2 ^ a % 2 = 1 := by
    have := testBit_xor_self i a
    rw [h, Nat.testBit_eq_decide_div_mod_eq] at this
    simpa using this
  have h4 : i / 2 ^ a % 2 = 0 := by
    rw [Nat.testBit_eq_decide_div_mod_eq] at h
    simpa using h
  have e1 : (i ^^^ 2 ^ a) / 2 ^ a = i / 2 ^ a + 1 := by
    rw [pow_succ, ← Nat.div_div_eq_div_mul, ← Nat.div_div_eq_div_mul] at h1; omega
  have e2 := Nat.div_add_mod (i ^^^ 2 ^ a) (2 ^ a)
  have e3 := Nat.div_add_mod i (2 ^ a)
  rw [e1, h2, Nat.mul_add] at e2
  omega

theorem xor_of_set {i a : ℕ} (h : i.testBit a = true) : (i ^^^ 2 ^ a) + 2 ^ a = i := by
  have h1 : (i ^^^ 2 ^ a).testBit a = false := by rw [testBit_xor_self, h]; rfl
  rw [← xor_of_clear h1, xor_xor]

end lanes

/-! ## A predicate that holds of every lane goes through the network -/

theorem pass_all {β : Type} (lt : β → β → Bool) (p : β → Prop) {n a b : ℕ} (ha : a < n) {f : ℕ → β}
    (h : ∀ i < 2 ^ n, p (f i)) : ∀ i < 2 ^ n, p (pass lt a b f i) := by
  intro i hi
  rcases pass_mem lt a b f i with e | e <;> rw [e]
  · exact h _ (xor_lt ha hi)
  · exact h _ hi

/-! ## Rows of truth values -/

/-- The pass of an ascending block of truth values: the lower lane takes the conjunction, the upper the disjunction. -/
def clean (a : ℕ) (g : ℕ → Bool) : ℕ → Bool := fun i =>
  if i.testBit a then g (i ^^^ 2 ^ a) || g i else g (i ^^^ 2 ^ a) && g i

/-- The `n` lanes from `s` hold one value inside an interval of lanes and the other outside it. -/
def TwoChange (g : ℕ → Bool) (s n : ℕ) : Prop :=
  ∃ (c : Bool) (p q : ℕ), ∀ i < n, (g (s + i) = c ↔ p ≤ i ∧ i < q)

theorem TwoChange.not {g : ℕ → Bool} {s n : ℕ} (h : TwoChange g s n) : TwoChange (fun i => !g i) s n := by
  obtain ⟨c, p, q, h⟩ := h
  refine ⟨!c, p, q, fun i hi => ?_⟩
  rw [← h i hi]
  change ((!g (s + i)) = !c) ↔ _
  generalize g (s + i) = y
  cases y <;> cases c <;> simp

/-- The half-cleaner's argument, for a row that is true inside an interval: both halves of the result have two
    changes, and either the lower half is all false or the upper half is all true. -/
theorem half_true {x : ℕ → Bool} {n p q : ℕ} (h : ∀ i < n + n, (x i = true ↔ p ≤ i ∧ i < q)) :
    (∃ (c : Bool) (p' q' : ℕ), ∀ i < n, ((x i && x (i + n)) = c ↔ p' ≤ i ∧ i < q'))
    ∧ (∃ (c : Bool) (p' q' : ℕ), ∀ i < n, ((x i || x (i + n)) = c ↔ p' ≤ i ∧ i < q'))
    ∧ ((∀ i < n, (x i && x (i + n)) = false) ∨ (∀ i < n, (x i || x (i + n)) = true)) := by
  have ha : ∀ i < n, ((x i && x (i + n)) = true ↔ (p ≤ i ∧ i < q) ∧ (p ≤ i + n ∧ i + n < q)) := fun i hi => by
    rw [Bool.and_eq_true, h i (by omega), h (i + n) (by omega)]
  have ho : ∀ i < n, ((x i || x (i + n)) = true ↔ (p ≤ i ∧ i < q) ∨ (p ≤ i + n ∧ i + n < q)) := fun i hi => by
    rw [Bool.or_eq_true, h i (by omega), h (i + n) (by omega)]
  have haf : ∀ i < n, ((x i && x (i + n)) = false ↔ ¬((p ≤ i ∧ i < q) ∧ (p ≤ i + n ∧ i + n < q))) := fun i hi => by
    rw [← ha i hi, Bool.not_eq_true]
  have hof : ∀ i < n, ((x i || x (i + n)) = false ↔ ¬((p ≤ i ∧ i < q) ∨ (p ≤ i + n ∧ i + n < q))) := fun i hi => by
    rw [← ho i hi, Bool.not_eq_true]
  refine ⟨⟨true, p, q - n, fun i hi => ?_⟩, ?_, ?_⟩
  · rw [ha i hi]; omega
  · by_cases h1 : q ≤ n
    · exact ⟨true, p, q, fun i hi => by rw [ho i hi]; omega⟩
    · by_cases h2 : n ≤ p
      · exact ⟨true, p - n, q - n, fun i hi => by rw [ho i hi]; omega⟩
      · exact ⟨false, q - n, p, fun i hi => by rw [hof i hi]; omega⟩
  · by_cases h1 : q ≤ p + n
    · exact Or.inl fun i hi => by rw [haf i hi]; omega
    · by_cases h2 : q ≤ n
      · exact Or.inl fun i hi => by rw [haf i hi]; omega
      · by_cases h3 : n ≤ p
        · exact Or.inl fun i hi => by rw [haf i hi]; omega
        · exact Or.inr fun i hi => by rw [ho i hi]; omega

theorem half {x : ℕ → Bool} {n : ℕ} (h : TwoChange x 0 (n + n)) :
    (∃ (c : Bool) (p' q' : ℕ), ∀ i < n, ((x i && x (i + n)) = c ↔ p' ≤ i ∧ i < q'))
    ∧ (∃ (c : Bool) (p' q' : ℕ), ∀ i < n, ((x i || x (i + n)) = c ↔ p' ≤ i ∧ i < q'))
    ∧ ((∀ i < n, (x i && x (i + n)) = false) ∨ (∀ i < n, (x i || x (i + n)) = true)) := by
  obtain ⟨c, p, q, h⟩ := h
  simp only [Nat.zero_add] at h
  cases c with
  | true => exact half_true h
  | false =>
    have h' : ∀ i < n + n, ((!x i) = true ↔ p ≤ i ∧ i < q) := fun i hi => by
      rw [← h i hi]; cases x i <;> simp
    obtain ⟨⟨c1, p1, q1, e1⟩, ⟨c2, p2, q2, e2⟩, e3⟩ := half_true (x := fun i => !x i) h'
    refine ⟨⟨!c2, p2, q2, fun i hi => ?_⟩, ⟨!c1, p1, q1, fun i hi => ?_⟩, ?_⟩
    · rw [← e2 i hi]; cases x i <;> cases x (i + n) <;> cases c2 <;> simp
    · rw [← e1 i hi]; cases x i <;> cases x (i + n) <;> cases c1 <;> simp
    · rcases e3 with e | e
      · exact Or.inr fun i hi => by have := e i hi; revert this; cases x i <;> cases x (i + n) <;> simp
      · exact Or.inl fun i hi => by have := e i hi; revert this; cases x i <;> cases x (i + n) <;> simp

/-- What a merge of blocks of `2 ^ b` keeps, with pieces of `2 ^ a` still to be merged: each piece has two changes,
    and inside a block the pieces are in order. -/
structure Merging (b a : ℕ) (g : ℕ → Bool) : Prop where
  two : ∀ m, TwoChange g (m * 2 ^ a) (2 ^ a)
  ord : ∀ i j, i / 2 ^ b = j / 2 ^ b → i / 2 ^ a < j / 2 ^ a → g i ≤ g j

theorem clean_mem (a : ℕ) (g : ℕ → Bool) (i : ℕ) : clean a g i = g (i ^^^ 2 ^ a) ∨ clean a g i = g i := by
  unfold clean; cases g (i ^^^ 2 ^ a) <;> cases g i <;> split <;> simp

theorem testBit_piece {m a i : ℕ} (h : i < 2 ^ a) : (m * 2 ^ a + i).testBit a = decide (m % 2 = 1) := by
  rw [Nat.testBit_eq_decide_div_mod_eq, Nat.mul_comm m, Nat.mul_add_div (Nat.two_pow_pos a), Nat.div_eq_of_lt h]
  simp

/-- The lanes of a cleaned pair of pieces. -/
theorem clean_low {a m i : ℕ} (g : ℕ → Bool) (h : i < 2 ^ a) :
    clean a g (m * 2 ^ (a + 1) + i) = (g (m * 2 ^ (a + 1) + i) && g (m * 2 ^ (a + 1) + (i + 2 ^ a))) := by
  have hb : (m * 2 ^ (a + 1) + i).testBit a = false := by
    rw [show m * 2 ^ (a + 1) + i = (2 * m) * 2 ^ a + i by rw [pow_succ]; ring, testBit_piece h]; simp
  unfold clean
  rw [hb, xor_of_clear hb, Nat.add_assoc]
  simp [Bool.and_comm]

theorem clean_high {a m i : ℕ} (g : ℕ → Bool) (h : i < 2 ^ a) :
    clean a g (m * 2 ^ (a + 1) + (i + 2 ^ a)) = (g (m * 2 ^ (a + 1) + i) || g (m * 2 ^ (a + 1) + (i + 2 ^ a))) := by
  have hb : (m * 2 ^ (a + 1) + i).testBit a = false := by
    rw [show m * 2 ^ (a + 1) + i = (2 * m) * 2 ^ a + i by rw [pow_succ]; ring, testBit_piece h]; simp
  have hc := xor_of_clear hb
  rw [Nat.add_assoc] at hc
  unfold clean
  rw [← hc, testBit_xor_self, xor_xor, hb]
  simp

/-- One pass of a merge. -/
theorem Merging.step {b a : ℕ} {g : ℕ → Bool} (hab : a < b) (h : Merging b (a + 1) g) : Merging b a (clean a g) := by
  have hH : ∀ m, _ := fun m => half (x := fun i => g (m * 2 ^ (a + 1) + i)) (n := 2 ^ a) (by
    obtain ⟨c, p, q, e⟩ := h.two m
    refine ⟨c, p, q, fun i hi => ?_⟩
    rw [Nat.zero_add]; exact e i (by rw [pow_succ]; omega))
  have hpos : 0 < 2 ^ a := Nat.two_pow_pos a
  have hsplit : ∀ i, i / 2 ^ a = 2 * (i / 2 ^ (a + 1)) + (i / 2 ^ a) % 2 := fun i => by
    rw [pow_succ, ← Nat.div_div_eq_div_mul]; omega
  have hlane : ∀ i, i = (i / 2 ^ a) * 2 ^ a + i % 2 ^ a := fun i => by
    rw [Nat.mul_comm]; exact (Nat.div_add_mod i _).symm
  constructor
  · intro m
    obtain ⟨⟨c1, p1, q1, e1⟩, ⟨c2, p2, q2, e2⟩, -⟩ := hH (m / 2)
    rcases Nat.mod_two_eq_zero_or_one m with hm | hm
    · refine ⟨c1, p1, q1, fun i hi => ?_⟩
      rw [show m * 2 ^ a + i = m / 2 * 2 ^ (a + 1) + i by
        rw [pow_succ]; have : m = 2 * (m / 2) := by omega
        conv_lhs => rw [this]
        ring, clean_low g hi]
      exact e1 i hi
    · refine ⟨c2, p2, q2, fun i hi => ?_⟩
      rw [show m * 2 ^ a + i = m / 2 * 2 ^ (a + 1) + (i + 2 ^ a) by
        rw [pow_succ]; have : m = 2 * (m / 2) + 1 := by omega
        conv_lhs => rw [this]
        ring, clean_high g hi]
      exact e2 i hi
  · intro i j hb hij
    by_cases hblk : i / 2 ^ (a + 1) = j / 2 ^ (a + 1)
    · have hi := hsplit i; have hj := hsplit j
      have hi0 : i / 2 ^ a % 2 = 0 := by omega
      have hj1 : j / 2 ^ a % 2 = 1 := by omega
      have ei : i = i / 2 ^ (a + 1) * 2 ^ (a + 1) + i % 2 ^ a := by
        conv_lhs => rw [hlane i, hi, hi0]
        rw [pow_succ]; ring
      have ej : j = i / 2 ^ (a + 1) * 2 ^ (a + 1) + (j % 2 ^ a + 2 ^ a) := by
        conv_lhs => rw [hlane j, hj, hj1, ← hblk]
        rw [pow_succ]; ring
      have hi' := Nat.mod_lt i hpos; have hj' := Nat.mod_lt j hpos
      rcases (hH (i / 2 ^ (a + 1))).2.2 with e | e
      · have := e _ hi'
        rw [ei, clean_low g hi']
        rw [this]; exact Bool.false_le _
      · have := e _ hj'
        rw [ej, clean_high g hj']
        rw [this]; exact Bool.le_true _
    · have hlt : i / 2 ^ (a + 1) < j / 2 ^ (a + 1) := by
        have hi := hsplit i; have hj := hsplit j; omega
      have hx : ∀ k, (k ^^^ 2 ^ a) / 2 ^ (a + 1) = k / 2 ^ (a + 1) := fun k => xor_div (by omega)
      have hy : ∀ k, (k ^^^ 2 ^ a) / 2 ^ b = k / 2 ^ b := fun k => xor_div hab
      rcases clean_mem a g i with e | e <;> rcases clean_mem a g j with e' | e' <;> rw [e, e'] <;>
        exact h.ord _ _ (by simp only [hx, hy, hb]) (by simp only [hx, hlt])

/-- All passes of a merge, on truth values. -/
def cleanAll : ℕ → (ℕ → Bool) → ℕ → Bool
  | 0, g => g
  | c + 1, g => cleanAll c (clean c g)

theorem Merging.all {b : ℕ} : ∀ (c : ℕ) {g : ℕ → Bool}, c ≤ b → Merging b c g → Merging b 0 (cleanAll c g)
  | 0, _, _, h => h
  | c + 1, _, hc, h => Merging.all c (by omega) (h.step (by omega))

/-! ## The network on truth values -/

/-- "Strictly before" of truth values. -/
abbrev ltB (x y : Bool) : Bool := !x && y

/-- A row with the descending blocks of `2 ^ b` turned over. -/
def flip (b : ℕ) (f : ℕ → Bool) : ℕ → Bool := fun i => f i ^^ i.testBit b

theorem flip_pass {a b : ℕ} (hab : a < b) (f : ℕ → Bool) : flip b (pass ltB a b f) = clean a (flip b f) := by
  funext i
  simp only [flip, pass, clean, ltB, testBit_xor_ne (show a ≠ b by omega)]
  cases f (i ^^^ 2 ^ a) <;> cases f i <;> cases i.testBit a <;> cases i.testBit b <;> rfl

theorem flip_merge {b : ℕ} : ∀ (c : ℕ) (f : ℕ → Bool), c ≤ b → flip b (merge ltB b c f) = cleanAll c (flip b f)
  | 0, _, _ => rfl
  | c + 1, f, h => by
    unfold merge cleanAll
    rw [flip_merge c _ (by omega), flip_pass (by omega)]

/-- Inside each block of `2 ^ n`, the row turned over in the descending blocks ascends. -/
def Ascends (n : ℕ) (f : ℕ → Bool) : Prop :=
  ∀ i j, i / 2 ^ n = j / 2 ^ n → i ≤ j → flip n f i ≤ flip n f j

/-- An ascending row of truth values has one change. -/
theorem one_change (y : ℕ → Bool) (n : ℕ) (h : ∀ i j, i ≤ j → j < n → y i ≤ y j) :
    ∃ p ≤ n, ∀ i < n, (y i = true ↔ p ≤ i) := by
  classical
  by_cases hx : ∃ i, i < n ∧ y i = true
  · refine ⟨Nat.find hx, (Nat.find_spec hx).1.le, fun i hi => ⟨fun e => Nat.find_min' hx ⟨hi, e⟩, fun e => ?_⟩⟩
    have h1 := h _ _ e hi
    rw [(Nat.find_spec hx).2] at h1
    exact Bool.eq_true_of_true_le h1
  · refine ⟨n, le_rfl, fun i hi => ⟨fun e => absurd ⟨i, hi, e⟩ hx, fun e => by omega⟩⟩

theorem flip_two {n : ℕ} {f : ℕ → Bool} (h : Ascends n f) (m : ℕ) :
    TwoChange f (m * 2 ^ (n + 1)) (2 ^ (n + 1)) := by
  have hpos : 0 < 2 ^ n := Nat.two_pow_pos n
  have hdiv : ∀ k, ∀ i < 2 ^ n, (k * 2 ^ n + i) / 2 ^ n = k := fun k i hi => by
    rw [Nat.mul_comm, Nat.mul_add_div hpos, Nat.div_eq_of_lt hi, Nat.add_zero]
  have hmono : ∀ k, ∀ i j, i ≤ j → j < 2 ^ n → flip n f (k * 2 ^ n + i) ≤ flip n f (k * 2 ^ n + j) :=
    fun k i j hij hj => h _ _ (by rw [hdiv k i (by omega), hdiv k j hj]) (by omega)
  obtain ⟨p, hp, ep⟩ := one_change (fun i => flip n f (2 * m * 2 ^ n + i)) (2 ^ n) (hmono (2 * m))
  obtain ⟨q, hq, eq⟩ := one_change (fun i => flip n f ((2 * m + 1) * 2 ^ n + i)) (2 ^ n) (hmono (2 * m + 1))
  refine ⟨true, p, q + 2 ^ n, fun i hi => ?_⟩
  by_cases hi' : i < 2 ^ n
  · have e := ep i hi'
    simp only [flip, testBit_piece hi'] at e
    rw [show m * 2 ^ (n + 1) + i = 2 * m * 2 ^ n + i by rw [pow_succ]; ring]
    have : decide (2 * m % 2 = 1) = false := by simp
    rw [this, Bool.xor_false] at e
    rw [e]; omega
  · have hlt : i - 2 ^ n < 2 ^ n := by rw [pow_succ] at hi; omega
    have e := eq (i - 2 ^ n) hlt
    simp only [flip, testBit_piece hlt] at e
    rw [show m * 2 ^ (n + 1) + i = (2 * m + 1) * 2 ^ n + (i - 2 ^ n) by
      rw [pow_succ]; have : i = 2 ^ n + (i - 2 ^ n) := by omega
      conv_lhs => rw [this]
      ring]
    have : decide ((2 * m + 1) % 2 = 1) = true := by simp
    rw [this, Bool.xor_true] at e
    have e' : f ((2 * m + 1) * 2 ^ n + (i - 2 ^ n)) = true ↔ ¬ (q ≤ i - 2 ^ n) := by
      rw [← e]; cases f ((2 * m + 1) * 2 ^ n + (i - 2 ^ n)) <;> simp
    rw [e']; omega

theorem TwoChange.flip {n b : ℕ} {f : ℕ → Bool} {m : ℕ} (h : TwoChange f (m * 2 ^ b) (2 ^ b)) (hb : n = b) :
    TwoChange (flip n f) (m * 2 ^ b) (2 ^ b) := by
  subst hb
  by_cases hm : m % 2 = 1
  · obtain ⟨c, p, q, e⟩ := h.not
    refine ⟨c, p, q, fun i hi => ?_⟩
    rw [← e i hi]; unfold Network.flip; rw [testBit_piece hi]; simp [hm]
  · obtain ⟨c, p, q, e⟩ := h
    refine ⟨c, p, q, fun i hi => ?_⟩
    rw [← e i hi]; unfold Network.flip; rw [testBit_piece hi]; simp [hm]

theorem sorted_ascends (f : ℕ → Bool) : ∀ n, Ascends n (sorted ltB n f)
  | 0 => fun i j h _ => by
    rw [pow_zero, Nat.div_one, Nat.div_one] at h; rw [h]
  | n + 1 => by
    have ih := sorted_ascends f n
    have hm : Merging (n + 1) (n + 1) (flip (n + 1) (sorted ltB n f)) :=
      ⟨fun m => (flip_two ih m).flip rfl, fun i j h h' => absurd h h'.ne⟩
    have h0 := hm.all (n + 1) le_rfl
    rw [← flip_merge (n + 1) _ le_rfl] at h0
    intro i j hb hij
    rcases hij.lt_or_eq with hlt | rfl
    · exact h0.ord i j hb (by rw [pow_zero, Nat.div_one, Nat.div_one]; exact hlt)
    · exact le_rfl

/-! ## The passes counted through -/

/-- The distance and the block of pass `t`, as exponents of two: distances go down to `1`, then the block doubles. -/
def sched : ℕ → ℕ × ℕ
  | 0 => (0, 1)
  | t + 1 => if (sched t).1 = 0 then ((sched t).2, (sched t).2 + 1) else ((sched t).1 - 1, (sched t).2)

/-- The row after `t` passes. -/
def run {β : Type} (lt : β → β → Bool) (f : ℕ → β) : ℕ → ℕ → β
  | 0 => f
  | t + 1 => pass lt (sched t).1 (sched t).2 (run lt f t)

/-- The passes before stage `n + 1`. -/
def before : ℕ → ℕ
  | 0 => 0
  | n + 1 => before n + (n + 1)

theorem sched_stage {b : ℕ} : ∀ (c t : ℕ), sched t = (c, b) → ∀ k ≤ c, sched (t + k) = (c - k, b)
  | c, t, h, 0, _ => h
  | c, t, h, k + 1, hk => by
    have e := sched_stage c t h k (by omega)
    rw [show t + (k + 1) = t + k + 1 by omega, sched, e, if_neg (by simp; omega)]
    ext <;> simp; omega

theorem sched_before : ∀ n, sched (before n) = (n, n + 1)
  | 0 => rfl
  | n + 1 => by
    have e := sched_stage n (before n) (sched_before n) n le_rfl
    rw [before, show before n + (n + 1) = before n + n + 1 by omega, sched, e, if_pos (by simp)]

theorem merge_run {β : Type} (lt : β → β → Bool) (f : ℕ → β) {b : ℕ} : ∀ (c t : ℕ), sched t = (c, b) →
    merge lt b (c + 1) (run lt f t) = run lt f (t + (c + 1))
  | 0, t, h => by simp only [merge]; rw [show t + (0 + 1) = t + 1 from rfl, run, h]
  | c + 1, t, h => by
    have e : run lt f (t + 1) = pass lt (c + 1) b (run lt f t) := by rw [run, h]
    have hs : sched (t + 1) = (c, b) := by have := sched_stage (c + 1) t h 1 (by omega); simpa using this
    rw [merge, ← e, merge_run lt f c (t + 1) hs, show t + 1 + (c + 1) = t + (c + 1 + 1) by omega]

/-- The network is its passes in the order of the schedule. -/
theorem sorted_run {β : Type} (lt : β → β → Bool) (f : ℕ → β) : ∀ n, sorted lt n f = run lt f (before n)
  | 0 => rfl
  | n + 1 => by rw [sorted, sorted_run lt f n, merge_run lt f n _ (sched_before n), before]

theorem sched_lt : ∀ t < 78, (sched t).1 < (sched t).2 ∧ (sched t).2 ≤ 12 := by decide

theorem run_all {β : Type} (lt : β → β → Bool) (p : β → Prop) {f : ℕ → β} (h : ∀ i < 2 ^ 12, p (f i)) :
    ∀ t ≤ 78, ∀ i < 2 ^ 12, p (run lt f t i)
  | 0, _ => h
  | t + 1, ht => pass_all lt p (by have := sched_lt t (by omega); omega) (run_all lt p h t (by omega))

/-! ## Any linear order, by the 0-1 principle -/

section linear
variable {α : Type} [LinearOrder α]

/-- "Strictly before" of a linear order. -/
abbrev ltL (x y : α) : Bool := decide (x < y)

theorem above_exchange (t p x : α) (w : Bool) :
    decide (t < if ltL p x == w then p else x)
      = if ltB (decide (t < p)) (decide (t < x)) == w then decide (t < p) else decide (t < x) := by
  simp only [ltL, ltB]
  by_cases h1 : p < x
  · by_cases h2 : t < p
    · cases w <;> simp [h1, h2, h2.trans h1]
    · by_cases h3 : t < x <;> cases w <;> simp [h1, h2, h3]
  · by_cases h3 : t < x
    · cases w <;> simp [h1, h3, lt_of_lt_of_le h3 (not_lt.mp h1)]
    · by_cases h2 : t < p <;> cases w <;> simp [h1, h2, h3]

/-- A pass commutes with "above the threshold `t`". -/
theorem above_pass (t : α) {a b : ℕ} (f : ℕ → α) :
    (fun i => decide (t < pass ltL a b f i)) = pass ltB a b (fun i => decide (t < f i)) :=
  funext fun _ => above_exchange t _ _ _

theorem above_merge (t : α) {b : ℕ} : ∀ (c : ℕ) (f : ℕ → α),
    (fun i => decide (t < merge ltL b c f i)) = merge ltB b c (fun i => decide (t < f i))
  | 0, _ => rfl
  | c + 1, f => by unfold merge; rw [above_merge t c, above_pass]

theorem above_sorted (t : α) (f : ℕ → α) : ∀ n,
    (fun i => decide (t < sorted ltL n f i)) = sorted ltB n (fun i => decide (t < f i))
  | 0 => rfl
  | n + 1 => by unfold sorted; rw [above_merge, above_sorted t f n]

/-- The network sorts: its row ascends on the lanes below `2 ^ n`. -/
theorem sorted_mono (f : ℕ → α) (n : ℕ) {i j : ℕ} (hij : i ≤ j) (hj : j < 2 ^ n) :
    sorted ltL n f i ≤ sorted ltL n f j := by
  by_contra hlt
  rw [not_le] at hlt
  have h := sorted_ascends (fun i => decide (sorted ltL n f j < f i)) n i j
    (by rw [Nat.div_eq_of_lt hj, Nat.div_eq_of_lt (by omega)]) hij
  rw [← above_sorted] at h
  unfold flip at h
  rw [Nat.testBit_lt_two_pow hj, Nat.testBit_lt_two_pow (show i < 2 ^ n by omega)] at h
  simp [hlt] at h
  exact absurd h (by decide)

/-! ## The network permutes the lanes -/

/-- `g`'s first `N` lanes are `f`'s, permuted. -/
def Permutes (N : ℕ) (f g : ℕ → α) : Prop := ∃ σ : Equiv.Perm (Fin N), ∀ i : Fin N, g i = f (σ i)

theorem Permutes.refl (N : ℕ) (f : ℕ → α) : Permutes N f f := ⟨Equiv.refl _, fun _ => rfl⟩

theorem Permutes.trans {N : ℕ} {f g h : ℕ → α} (h1 : Permutes N f g) (h2 : Permutes N g h) : Permutes N f h := by
  obtain ⟨σ, e⟩ := h1; obtain ⟨τ, e'⟩ := h2
  exact ⟨τ.trans σ, fun i => by rw [e' i, e (τ i)]; rfl⟩

/-- A lane takes its partner's value exactly when the two are out of order. -/
def swaps (f : ℕ → α) (a b i : ℕ) : Bool :=
  if i.testBit a == i.testBit b then decide (f (i ^^^ 2 ^ a) < f i) else decide (f i < f (i ^^^ 2 ^ a))

theorem swaps_partner {a b : ℕ} (hab : a ≠ b) (f : ℕ → α) (i : ℕ) : swaps f a b (i ^^^ 2 ^ a) = swaps f a b i := by
  unfold swaps
  rw [xor_xor, testBit_xor_self, testBit_xor_ne hab]
  cases i.testBit a <;> cases i.testBit b <;> rfl

theorem pass_eq_swaps (f : ℕ → α) (a b i : ℕ) :
    pass ltL a b f i = if swaps f a b i then f (i ^^^ 2 ^ a) else f i := by
  unfold pass swaps ltL
  generalize f (i ^^^ 2 ^ a) = p
  generalize f i = x
  generalize (i.testBit a == i.testBit b) = w
  rcases lt_trichotomy p x with h | h | h
  · cases w <;> simp [h, h.not_gt]
  · subst h; cases w <;> simp
  · cases w <;> simp [h, h.not_gt]

theorem pass_permutes {n a b : ℕ} (ha : a < n) (hab : a ≠ b) (f : ℕ → α) : Permutes (2 ^ n) f (pass ltL a b f) := by
  let s : Fin (2 ^ n) → Fin (2 ^ n) := fun i =>
    if swaps f a b i then ⟨(i : ℕ) ^^^ 2 ^ a, xor_lt ha i.2⟩ else i
  have hs : Function.Involutive s := by
    intro i
    by_cases h : swaps f a b i
    · have h1 : s i = ⟨(i : ℕ) ^^^ 2 ^ a, xor_lt ha i.2⟩ := if_pos h
      have h2 : swaps f a b (s i) := by rw [h1]; exact (swaps_partner hab f i).trans h
      have h3 : s (s i) = ⟨(s i : ℕ) ^^^ 2 ^ a, xor_lt ha (s i).2⟩ := if_pos h2
      rw [h3]; ext; rw [h1]; exact xor_xor _ _
    · have h1 : s i = i := if_neg h
      rw [h1, h1]
  refine ⟨hs.toPerm, fun i => ?_⟩
  rw [pass_eq_swaps]
  change _ = f (s i : ℕ)
  by_cases h : swaps f a b i
  · rw [if_pos h, show s i = ⟨(i : ℕ) ^^^ 2 ^ a, xor_lt ha i.2⟩ from if_pos h]
  · rw [if_neg h, show s i = i from if_neg h]

theorem merge_permutes {n b : ℕ} : ∀ (c : ℕ) (f : ℕ → α), c ≤ n → c ≤ b → Permutes (2 ^ n) f (merge ltL b c f)
  | 0, f, _, _ => Permutes.refl _ f
  | c + 1, f, h, h' => (pass_permutes (by omega) (by omega) f).trans (merge_permutes c _ (by omega) (by omega))

theorem sorted_permutes {n : ℕ} (f : ℕ → α) : ∀ m ≤ n, Permutes (2 ^ n) f (sorted ltL m f)
  | 0, _ => Permutes.refl _ f
  | m + 1, h => (sorted_permutes f m (by omega)).trans (merge_permutes (m + 1) _ h le_rfl)

/-- Two ascending listings of the same values are one. -/
theorem listing_unique {N : ℕ} (f : Fin N → α) (σ τ : Equiv.Perm (Fin N)) (hσ : Monotone (f ∘ σ))
    (hτ : Monotone (f ∘ τ)) : f ∘ σ = f ∘ τ :=
  List.ofFn_injective <| List.Perm.eq_of_sortedLE hσ.sortedLE_ofFn hτ.sortedLE_ofFn <|
    (σ.ofFn_comp_perm f).trans (τ.ofFn_comp_perm f).symm

/-- Whatever else lists the lanes in order lists what the network does. -/
theorem sorted_eq {n : ℕ} (f : ℕ → α) (τ : Equiv.Perm (Fin (2 ^ n))) (h : Monotone fun i => f (τ i)) (i : Fin (2 ^ n)) :
    sorted ltL n f i = f (τ i) := by
  obtain ⟨σ, e⟩ := sorted_permutes f n le_rfl
  have hm : Monotone ((fun i : Fin (2 ^ n) => f i) ∘ σ) := fun i j hij => by
    change f (σ i) ≤ f (σ j)
    rw [← e i, ← e j]; exact sorted_mono f n hij j.2
  have hu := congrFun (listing_unique _ σ τ hm (show Monotone ((fun i : Fin (2 ^ n) => f i) ∘ τ) from h)) i
  rw [e i]; exact hu

end linear

/-! ## Keyed rows -/

section keyed
variable {α β : Type} [LinearOrder α] (key : β → α)

theorem key_pass (lt : β → β → Bool) (hlt : ∀ x y, lt x y = decide (key x < key y)) (a b : ℕ) (f : ℕ → β) :
    (fun i => key (pass lt a b f i)) = pass ltL a b (fun i => key (f i)) := by
  funext i; unfold pass; rw [hlt]; unfold ltL; split <;> rfl

theorem key_merge (lt : β → β → Bool) (hlt : ∀ x y, lt x y = decide (key x < key y)) {b : ℕ} : ∀ (c : ℕ) (f : ℕ → β),
    (fun i => key (merge lt b c f i)) = merge ltL b c (fun i => key (f i))
  | 0, _ => rfl
  | c + 1, f => by unfold merge; rw [key_merge lt hlt c, key_pass key lt hlt]

theorem key_sorted (lt : β → β → Bool) (hlt : ∀ x y, lt x y = decide (key x < key y)) (f : ℕ → β) : ∀ n,
    (fun i => key (sorted lt n f i)) = sorted ltL n (fun i => key (f i))
  | 0 => rfl
  | n + 1 => by unfold sorted; rw [key_merge key lt hlt, key_sorted lt hlt f n]

end keyed

end Cert.Network
-- ==== Proof.SetupKernelIdeal.lean ====
/- The launch's set-up: the program as the SparseCore launch theorem sees it, and the resource algebra of the proof — the
   SparseCore handshakes' rounds beside the TensorCore pipelines' rounds and the local copies' counters. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.RegionArrays
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Work

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 4) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The rounds of the SparseCore handshakes, -/
abbrev UH : Type := URounds (GSem nD τ sig) ℕ
/-- and beside them the TensorCore pipelines' rounds and the local copies' counters. -/
abbrev UU : Type := UH × (UR sig nD τ × Counters)

abbrev EH : Emb UH (MT nD τ sig (HIx 1) (Elt F) ℕ UU ℕ) := embL
abbrev EP : Emb (UR sig nD τ) (MT nD τ sig (HIx 1) (Elt F) ℕ UU ℕ) := (Emb.inl : Emb (UR sig nD τ) (UR sig nD τ × Counters)).trans embR

instance EP_lands : (EP (F := F)).LandsIn (upEmb : UEmb _ (MT nD τ sig (HIx 1) (Elt F) ℕ UU ℕ)) := by unfold EP; infer_instance

end Cert.KernelIdeal.Work
end
-- ==== Proof.RowsKernelIdeal.lean ====
/- What the two sorting kernels compute on a block of eight rows: one trip of the loop is one pass of the network
   (`Network.pass`) on every row, and the run-time pair of the trip is the network's schedule. -/
module

public import proofs.«01_k».proof.Proof.Gen.KernelIdeal.Skeleton
public import proofs.«01_k».proof.Proof.Network
public import Idealize.ShloMosaic.Lib.Pipeline.Value

@[expose] public section

noncomputable section

namespace Cert.KernelIdeal.Work

open Idealize.ShloMosaic Idealize.SL.Sem
open Cert.KernelIdeal Cert.KernelIdeal.Gen
open Cert.Network (pass sched run)

variable {F : FTy → Type} [FloatOps F]

/-! ## The schedule in registers -/

/-- The block and the distance of trip `t`. -/
def kReg (t : ℕ) : BitVec 32 := BitVec.ofNat 32 (2 ^ (sched t).2)
def jReg (t : ℕ) : BitVec 32 := BitVec.ofNat 32 (2 ^ (sched t).1)

theorem next_k : ∀ t < 78, Scalar.select (Scalar.cmpi .eq (jReg t) 1#32) (Scalar.muli (kReg t) 2#32) (kReg t) = kReg (t + 1) := by
  decide

/-- A quotient rounded down, as the kernels spell it. -/
abbrev halfReg (x : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt 2#32 0#32)) (Scalar.extui (Scalar.cmpi .slt 2#32 0#32))))
      (Scalar.cmpi .ne (Scalar.remsi x 2#32) 0#32))
    (Scalar.subi (Scalar.divsi x 2#32) 1#32) (Scalar.divsi x 2#32)

theorem next_j : ∀ t < 78, Scalar.select (Scalar.cmpi .eq (jReg t) 1#32) (halfReg (kReg (t + 1))) (halfReg (jReg t)) = jReg (t + 1) := by
  decide

/-! ## One pass on a block -/

section lane
variable {α : Type}

theorem iota_lane (j : S8x4096.Idx) : iota .tc S8x4096 32 [1] iota_S8x4096_d1_w32 j = BitVec.ofNat 32 (j 1).val := by
  simp [iota]

/-- A lane's bit, tested by a mask. -/
theorem mask_lane {l a : ℕ} (hl : l < 4096) (ha : a < 32) :
    IntOp.cmpi .eq (IntOp.andi (BitVec.ofNat 32 l) (BitVec.ofNat 32 (2 ^ a))) 0#32 = BitVec.ofBool (!l.testBit a) := by
  unfold IntOp.cmpi IntOp.andi
  congr 1
  have h : (BitVec.ofNat 32 l &&& BitVec.ofNat 32 (2 ^ a)).toNat = 2 ^ a * (l.testBit a).toNat := by
    rw [BitVec.toNat_and, BitVec.toNat_ofNat, BitVec.toNat_ofNat, Nat.mod_eq_of_lt (by omega),
      Nat.mod_eq_of_lt (Nat.pow_lt_pow_right (by norm_num) ha), Nat.and_two_pow, Nat.mul_comm]
  have h0 : (BitVec.ofNat 32 l &&& BitVec.ofNat 32 (2 ^ a) == 0#32) = decide ((BitVec.ofNat 32 l &&& BitVec.ofNat 32 (2 ^ a)).toNat = 0) := by
    rw [Bool.eq_iff_iff, beq_iff_eq, decide_eq_true_iff, BitVec.toNat_eq]; rfl
  change (BitVec.ofNat 32 l &&& BitVec.ofNat 32 (2 ^ a) == 0#32) = _
  rw [h0, h]
  have := Nat.two_pow_pos a
  cases l.testBit a <;> simp

theorem mask_iota (j : S8x4096.Idx) {a : ℕ} (ha : a < 32) :
    IntOp.cmpi .eq (IntOp.andi (iota .tc S8x4096 32 [1] iota_S8x4096_d1_w32 j) (BitVec.ofNat 32 (2 ^ a))) 0#32
      = BitVec.ofBool (!(j 1).val.testBit a) := by
  rw [iota_lane]; exact mask_lane (j 1).2 ha

/-- The partner's value, as the two rotations and the mask spell it. -/
theorem partner_lane {a : ℕ} (ha : a < 12) (g : Fin 8 → ℕ → α) (j : S8x4096.Idx) :
    Scalar.select (BitVec.ofBool (!(j 1).val.testBit a))
        (dynamicRotate 1 (Scalar.subi 0#32 (BitVec.ofNat 32 (2 ^ a))) none (fun j : S8x4096.Idx => g (j 0) (j 1).val) rotates_S8x4096_d1 j)
        (dynamicRotate 1 (BitVec.ofNat 32 (2 ^ a)) none (fun j : S8x4096.Idx => g (j 0) (j 1).val) rotates_S8x4096_d1 j)
      = g (j 0) ((j 1).val ^^^ 2 ^ a) := by
  have hl : (j 1).val < 4096 := (j 1).2
  have hp : 2 ^ a ≤ 2048 := Nat.pow_le_pow_right (by norm_num) (show a ≤ 11 by omega)
  have hx : (j 1).val ^^^ 2 ^ a < 2 ^ 12 := Network.xor_lt ha hl
  cases hb : (j 1).val.testBit a
  · have e := Network.xor_of_clear hb
    simp only [Scalar.select, Bool.not_false, BitVec.ofBool_true, if_true, dynamicRotate]
    rw [e]
    change g (j 0) (((j 1).val + 4096 - ((0#32 - BitVec.ofNat 32 (2 ^ a)).toNat + 0) % 4096) % 4096) = _
    congr 1
    have neg : ∀ q, 0 < q → q ≤ 2048 → (0#32 - BitVec.ofNat 32 q).toNat = 2 ^ 32 - q := fun q h1 h2 => by
      rw [BitVec.toNat_sub, BitVec.toNat_ofNat]; simp; omega
    rw [neg _ (Nat.two_pow_pos a) hp]; omega
  · have e := Network.xor_of_set hb
    simp only [Scalar.select, Bool.not_true, BitVec.ofBool_false, dynamicRotate]
    rw [if_neg (by decide)]
    change g (j 0) (((j 1).val + 4096 - ((BitVec.ofNat 32 (2 ^ a)).toNat + 0) % 4096) % 4096) = _
    congr 1
    rw [BitVec.toNat_ofNat, Nat.mod_eq_of_lt (show 2 ^ a < 2 ^ 32 by omega)]; omega

/-- The choice of a pass: a bit that says "strictly before", tested against "wants the smaller". -/
theorem choose_bit (c : BitVec 1) (x y : Bool) (p q : α) :
    Scalar.select (IntOp.xori (IntOp.xori c (IntOp.xori (IntOp.xori (BitVec.ofBool (!x)) (BitVec.ofBool (!y))) 1#1)) 1#1) p q
      = if (c == 1#1) == (x == y) then p else q := by
  have h : ∀ (c : BitVec 1) (x y : Bool),
      (IntOp.xori (IntOp.xori c (IntOp.xori (IntOp.xori (BitVec.ofBool (!x)) (BitVec.ofBool (!y))) 1#1)) 1#1 = 1)
        ↔ ((c == 1#1) == (x == y)) = true := by decide
  unfold Scalar.select
  exact if_congr (h c x y) rfl rfl

end lane

/-- "Strictly before" of the sort's lanes. -/
def ltF (x y : F .f32) : Bool := FloatOps.cmpf .olt x y == 1#1

/-- A block whose row `r` is the row `g r`. -/
abbrev blockOf {α : Type} (g : Fin 8 → ℕ → α) : S8x4096.Idx → α := fun j => g (j 0) (j 1).val

theorem sort_step {t : ℕ} (ht : t < 78) (g : Fin 8 → ℕ → F .f32) :
    k3_pay2 (iota .tc S8x4096 32 [1] iota_S8x4096_d1_w32) (kReg t) (jReg t) (blockOf g)
      = blockOf fun r => pass ltF (sched t).1 (sched t).2 (g r) := by
  funext j
  have hs := Network.sched_lt t ht
  simp only [k3_pay2, select, xori, cmpi, andi, cmpf, broadcast, constantI, jReg, kReg]
  rw [mask_iota j (a := (sched t).1) (by omega), mask_iota j (a := (sched t).2) (by omega), partner_lane (a := (sched t).1) (by omega) g j, choose_bit]
  rfl

/-- "Strictly before" of the argsort's lanes: by value, then by lane number. -/
def ltP (x y : F .f32 × BitVec 32) : Bool :=
  IntOp.ori (FloatOps.cmpf .olt x.1 y.1) (IntOp.andi (FloatOps.cmpf .oeq x.1 y.1) (IntOp.cmpi .slt x.2 y.2)) == 1#1

theorem argsort_step {t : ℕ} (ht : t < 78) (g : Fin 8 → ℕ → F .f32 × BitVec 32) :
    k1_pay6 (iota .tc S8x4096 32 [1] iota_S8x4096_d1_w32) (kReg t) (jReg t) (blockOf fun r i => (g r i).1) (blockOf fun r i => (g r i).2)
      = (blockOf fun r i => (pass ltP (sched t).1 (sched t).2 (g r) i).1)
    ∧ k1_pay7 (iota .tc S8x4096 32 [1] iota_S8x4096_d1_w32) (kReg t) (jReg t) (blockOf fun r i => (g r i).1) (blockOf fun r i => (g r i).2)
      = (blockOf fun r i => (pass ltP (sched t).1 (sched t).2 (g r) i).2) := by
  have hs := Network.sched_lt t ht
  refine ⟨funext fun j => ?_, funext fun j => ?_⟩ <;>
  · simp only [k1_pay7, k1_pay6, k1_pay5, k1_pay4, k1_pay3, k1_pay2, select, xori, ori, cmpi, andi, cmpf, broadcast, constantI, jReg, kReg]
    rw [mask_iota j (a := (sched t).1) (by omega), mask_iota j (a := (sched t).2) (by omega), partner_lane (a := (sched t).1) (by omega) (fun r i => (g r i).1) j,
      partner_lane (a := (sched t).1) (by omega) (fun r i => (g r i).2) j, choose_bit]
    simp only [blockOf, pass]
    split <;> rename_i h <;> split <;> rename_i h' <;> first | rfl | exact absurd h h' | exact absurd h' h

/-! ## The loops -/

theorem sort_trip (i : grid3.Coords) (arg1 : Memref sig .tc .vmem S8x4096 .f32) (harg1 : arg1.IsWhole) (arg2 : Memref sig .tc .vmem S8x4096 .f32)
    (harg2 : arg2.IsWhole) (k : Fin k3_t1_loop.trips) (g : Fin 8 → ℕ → F .f32) :
    k3_t1_body i arg1 harg1 arg2 harg2 (iota .tc S8x4096 32 [1] iota_S8x4096_d1_w32) k (kReg k, jReg k, blockOf g)
      = pure (kReg (k + 1), jReg (k + 1), blockOf fun r => pass ltF (sched k).1 (sched k).2 (g r)) := by
  have hk : (k : ℕ) < 78 := k.2
  simp only [k3_t1_body, k3_part1_eq_skeleton, k3_part1_skel, pure_bind, next_k _ hk, sort_step hk]
  rw [← next_j _ hk]

theorem argsort_trip (i : grid1.Coords) (arg1 : Memref sig .tc .vmem S8x4096 .f32) (harg1 : arg1.IsWhole) (arg2 : Memref sig .tc .vmem S8x4096 .i32)
    (harg2 : arg2.IsWhole) (k : Fin k1_t1_loop.trips) (g : Fin 8 → ℕ → F .f32 × BitVec 32) :
    k1_t1_body i arg1 harg1 arg2 harg2 (iota .tc S8x4096 32 [1] iota_S8x4096_d1_w32) k
        (kReg k, jReg k, blockOf fun r i => (g r i).1, blockOf fun r i => (g r i).2)
      = pure (kReg (k + 1), jReg (k + 1), (blockOf fun r i => (pass ltP (sched k).1 (sched k).2 (g r) i).1),
          blockOf fun r i => (pass ltP (sched k).1 (sched k).2 (g r) i).2) := by
  have hk : (k : ℕ) < 78 := k.2
  simp only [k1_t1_body, k1_part1_eq_skeleton, k1_part1_skel, pure_bind, next_k _ hk, (argsort_step hk g).1, (argsort_step hk g).2]
  rw [← next_j _ hk]

/-- A loop whose every trip only computes computes: from states `st k` to `st (k + 1)`, it ends at the last. -/
theorem forFrom_ret {E : Type → Type} {σ : Type} (st : ℕ → σ) : ∀ (n : ℕ) (b : ℕ) (body : Fin n → σ → Prog E σ),
    (∀ k : Fin n, body k (st (b + k)) = .ret (st (b + k + 1))) → Scf.forFrom body (List.finRange n) (st b) = .ret (st (b + n))
  | 0, b, _, _ => rfl
  | n + 1, b, body, h => by
    have hmap : ∀ (l : List (Fin n)) (a : σ), Scf.forFrom body (l.map Fin.succ) a = Scf.forFrom (fun k => body k.succ) l a := by
      intro l
      induction l with
      | nil => intro a; rfl
      | cons k l ih => intro a; rw [List.map_cons, Scf.forFrom_cons, Scf.forFrom_cons]; congr 1; funext a'; exact ih a'
    have h0 := h 0
    change body 0 (st b) = .ret (st (b + 1)) at h0
    have ih := forFrom_ret st n (b + 1) (fun k => body k.succ) fun k => by
      have hk := h k.succ
      rw [Fin.val_succ, ← Nat.add_assoc, Nat.add_right_comm b] at hk
      exact hk
    rw [List.finRange_succ, Scf.forFrom_cons, h0, Prog.bind_ret, hmap, ih, Nat.add_assoc, Nat.add_comm 1 n]

/-- The sort's loop, from the block whose rows are `g`. -/
theorem sort_loop (i : grid3.Coords) (arg1 : Memref sig .tc .vmem S8x4096 .f32) (harg1 : arg1.IsWhole) (arg2 : Memref sig .tc .vmem S8x4096 .f32)
    (harg2 : arg2.IsWhole) (g : Fin 8 → ℕ → F .f32) :
    Scf.Loop.for k3_t1_loop k3_t1_ok (2#32, 1#32, blockOf g) (k3_t1_body i arg1 harg1 arg2 harg2 (iota .tc S8x4096 32 [1] iota_S8x4096_d1_w32))
      = .ret (kReg 78, jReg 78, blockOf fun r => run ltF (g r) 78) := by
  rw [Scf.Loop.for, Scf.for_eq]
  have h := forFrom_ret (fun t => (kReg t, jReg t, blockOf fun r => run ltF (g r) t)) k3_t1_loop.trips 0
    (k3_t1_body i arg1 harg1 arg2 harg2 (iota .tc S8x4096 32 [1] iota_S8x4096_d1_w32)) fun k => by
      rw [Nat.zero_add]
      exact sort_trip i arg1 harg1 arg2 harg2 k fun r => run ltF (g r) k
  exact h

/-- The argsort's loop, from the block whose rows of pairs are `g`. -/
theorem argsort_loop (i : grid1.Coords) (arg1 : Memref sig .tc .vmem S8x4096 .f32) (harg1 : arg1.IsWhole) (arg2 : Memref sig .tc .vmem S8x4096 .i32)
    (harg2 : arg2.IsWhole) (g : Fin 8 → ℕ → F .f32 × BitVec 32) :
    Scf.Loop.for k1_t1_loop k1_t1_ok (2#32, 1#32, (blockOf fun r i => (g r i).1), blockOf fun r i => (g r i).2)
        (k1_t1_body i arg1 harg1 arg2 harg2 (iota .tc S8x4096 32 [1] iota_S8x4096_d1_w32))
      = .ret (kReg 78, jReg 78, (blockOf fun r i => (run ltP (g r) 78 i).1), blockOf fun r i => (run ltP (g r) 78 i).2) := by
  rw [Scf.Loop.for, Scf.for_eq]
  have h := forFrom_ret (fun t => (kReg t, jReg t, (blockOf fun r i => (run ltP (g r) t i).1), blockOf fun r i => (run ltP (g r) t i).2))
    k1_t1_loop.trips 0 (k1_t1_body i arg1 harg1 arg2 harg2 (iota .tc S8x4096 32 [1] iota_S8x4096_d1_w32)) fun k => by
      rw [Nat.zero_add]
      exact argsort_trip i arg1 harg1 arg2 harg2 k fun r => run ltP (g r) k
  exact h

/-! ## The blocks the two kernels leave -/

/-- Row `r` of a block, as a sequence. -/
def rowOf {α : Type} (x : S8x4096.Idx → α) (r : Fin 8) (i : ℕ) : α := x fun | ⟨0, _⟩ => r | ⟨1, _⟩ => Fin.ofNat 4096 i

theorem blockOf_rowOf {α : Type} (x : S8x4096.Idx → α) : blockOf (rowOf x) = x := by
  funext j
  unfold blockOf rowOf
  congr 1
  funext a
  match a with
  | ⟨0, _⟩ => rfl
  | ⟨1, _⟩ => exact Fin.ext (Nat.mod_eq_of_lt (j 1).isLt)

/-- A block with every row sorted by the network, -/
def sortBlock (x : Vec F S8x4096 .f32) : Vec F S8x4096 .f32 := blockOf fun r => run ltF (rowOf x r) 78
/-- and the lane numbers of a block, every row argsorted by it. -/
def argsortBlock (x : Vec F S8x4096 .f32) : Vec F S8x4096 .i32 := blockOf fun r i => (run ltP (fun i => (rowOf x r i, BitVec.ofNat 32 i)) 78 i).2

theorem sort_loop_block (i : grid3.Coords) (arg1 : Memref sig .tc .vmem S8x4096 .f32) (harg1 : arg1.IsWhole) (arg2 : Memref sig .tc .vmem S8x4096 .f32)
    (harg2 : arg2.IsWhole) (x : Vec F S8x4096 .f32) :
    Scf.Loop.for k3_t1_loop k3_t1_ok (2#32, 1#32, k3_pay1 x) (k3_t1_body i arg1 harg1 arg2 harg2 (iota .tc S8x4096 32 [1] iota_S8x4096_d1_w32))
      = .ret (kReg 78, jReg 78, sortBlock x) := by
  rw [show (k3_pay1 x : FVec F S8x4096 .f32) = blockOf (rowOf x) from (shapeCast_self _ _).trans (blockOf_rowOf x).symm]
  exact sort_loop i arg1 harg1 arg2 harg2 _

theorem argsort_loop_block (i : grid1.Coords) (arg1 : Memref sig .tc .vmem S8x4096 .f32) (harg1 : arg1.IsWhole) (arg2 : Memref sig .tc .vmem S8x4096 .i32)
    (harg2 : arg2.IsWhole) (x : Vec F S8x4096 .f32) :
    ∃ y, Scf.Loop.for k1_t1_loop k1_t1_ok (2#32, 1#32, k1_pay1 x, iota .tc S8x4096 32 [1] iota_S8x4096_d1_w32)
        (k1_t1_body i arg1 harg1 arg2 harg2 (iota .tc S8x4096 32 [1] iota_S8x4096_d1_w32))
      = .ret (kReg 78, jReg 78, y, argsortBlock x) := by
  have h1 : (k1_pay1 x : FVec F S8x4096 .f32) = blockOf fun r i => (rowOf x r i, BitVec.ofNat 32 i).1 := (shapeCast_self _ _).trans (blockOf_rowOf x).symm
  have h2 : iota .tc S8x4096 32 [1] iota_S8x4096_d1_w32 = blockOf fun r i => (rowOf x r i, BitVec.ofNat 32 i).2 := funext iota_lane
  have h := argsort_loop i arg1 harg1 arg2 harg2 fun r i => (rowOf x r i, BitVec.ofNat 32 i)
  rw [← h1, ← h2] at h
  exact ⟨_, h⟩

end Cert.KernelIdeal.Work
-- ==== Proof.BodiesKernelIdeal.lean ====
/- The bodies of the four TensorCore kernels, run at one grid point: from the staging buffers owned at any contents of
   the inputs, each leaves its inputs and its named value of them in the result's buffer. -/
module

public import proofs.«01_k».proof.Proof.SetupKernelIdeal
public import proofs.«01_k».proof.Proof.RowsKernelIdeal
public import Idealize.ShloMosaic.Lib.Pipeline.Value

@[expose] public section

noncomputable section

namespace Cert.KernelIdeal.Work

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem zero2 : (![0, 0] : Fin 2 → ℕ) = fun _ => 0 := funext fun a => by fin_cases a <;> rfl
theorem zero3 : (![0, 0, 0] : Fin 3 → ℕ) = fun _ => 0 := funext fun a => by fin_cases a <;> rfl

/-- A store of a whole buffer leaves what was stored. -/
theorem store_whole {S : Shape} {e : EltTy} {sp : Space} (M : Memref sig .tc sp S e) (f : M.view.ty.Contents (Elt F))
    (x : Vec F S e) (off : Fin S.rank → ℕ) (ho : off = fun _ => 0) (inb : ∀ a, off a + S.size a ≤ S.size a) :
    M.view.read (Elt F) (M.view.writes (Elt F) f [⟨Rect.unit (s := S) off S.size inb, x⟩]) = x := by
  rw [View.read_writes_eq_canon _ _ _ fun y => ⟨_, List.mem_singleton.mpr rfl, by
    subst ho; exact (congrArg (y ∈ ·) (Rect.set_whole S)).mpr (Finset.mem_univ y)⟩, View.canon_unit_zero ho]

theorem sort_body_run (c : Dev nD) (i : grid3.Coords) (M1 : Memref sig .tc .vmem S8x4096 .f32) (h1 : M1.IsWhole)
    (M2 : Memref sig .tc .vmem S8x4096 .f32) (h2 : M2.IsWhole) (x y : Vec F S8x4096 .f32) (Q : PUnit → sProp 𝕄) :
    iprop(owns (c : Thread nD τ) M1 fullShare x ∗ owns (c : Thread nD τ) M2 fullShare y
        ∗ (iprop(owns (c : Thread nD τ) M1 fullShare x ∗ owns (c : Thread nD τ) M2 fullShare (sortBlock x)) -∗ Q ⟨⟩))
      ⊢ wp frame (wpE (defs₀ (F := F)) Variants.none (c : Thread nD τ) none) Set.univ (cc3__sort_rows_body i M1 h1 M2 h2) Q := by
  rw [cc3__sort_rows_body_eq_skeleton]
  unfold cc3__sort_rows_body_skel owns
  iintro ⟨⟨%f1, %hf1, H1⟩, ⟨%f2, %hf2, H2⟩, Hk⟩
  sl_exec!
  sl_unfold_words
  rw [sort_loop_block, View.readAt_eq_ld, hf1, View.ld_unit_zero zero2]
  simp only [Prog.bind_ret]
  sl_exec!
  sl_step
  iapply Hk
  isplitl [H1]
  · iexists f1; isplitr; · ipureintro; exact hf1
    iexact H1
  iexists _; isplitr; swap; · iexact H2
  ipureintro
  sl_unfold_words
  exact store_whole M2 _ _ _ zero2 _

theorem argsort_body_run (c : Dev nD) (i : grid1.Coords) (M1 : Memref sig .tc .vmem S8x4096 .f32) (h1 : M1.IsWhole)
    (M2 : Memref sig .tc .vmem S8x4096 .i32) (h2 : M2.IsWhole) (x : Vec F S8x4096 .f32) (y : Vec F S8x4096 .i32) (Q : PUnit → sProp 𝕄) :
    iprop(owns (c : Thread nD τ) M1 fullShare x ∗ owns (c : Thread nD τ) M2 fullShare y
        ∗ (iprop(owns (c : Thread nD τ) M1 fullShare x ∗ owns (c : Thread nD τ) M2 fullShare (argsortBlock x)) -∗ Q ⟨⟩))
      ⊢ wp frame (wpE (defs₀ (F := F)) Variants.none (c : Thread nD τ) none) Set.univ (cc1__argsort_rows_body i M1 h1 M2 h2) Q := by
  rw [cc1__argsort_rows_body_eq_skeleton]
  unfold cc1__argsort_rows_body_skel owns
  obtain ⟨z, hz⟩ := argsort_loop_block i M1 h1 M2 h2 x
  iintro ⟨⟨%f1, %hf1, H1⟩, ⟨%f2, %hf2, H2⟩, Hk⟩
  sl_exec!
  sl_unfold_words
  rw [View.readAt_eq_ld, hf1, View.ld_unit_zero zero2, hz]
  simp only [Prog.bind_ret]
  sl_exec!
  sl_step
  iapply Hk
  isplitl [H1]
  · iexists f1; isplitr; · ipureintro; exact hf1
    iexact H1
  iexists _; isplitr; swap; · iexact H2
  ipureintro
  sl_unfold_words
  exact store_whole M2 _ _ _ zero2 _

theorem prep_body_run (c : Dev nD) (M0 : Memref sig .tc .vmem S128x128 .f32) (h0 : M0.IsWhole) (M1 : Memref sig .tc .vmem S4096x128 .f32) (h1 : M1.IsWhole)
    (M2 : Memref sig .tc .vmem S128x4096 .f32) (h2 : M2.IsWhole) (w : Vec F S128x128 .f32) (x : Vec F S4096x128 .f32) (y : Vec F S128x4096 .f32)
    (Q : PUnit → sProp 𝕄) :
    iprop(owns (c : Thread nD τ) M0 fullShare w ∗ owns (c : Thread nD τ) M1 fullShare x ∗ owns (c : Thread nD τ) M2 fullShare y
        ∗ (iprop(owns (c : Thread nD τ) M0 fullShare w ∗ owns (c : Thread nD τ) M1 fullShare x ∗ owns (c : Thread nD τ) M2 fullShare (k0_pay1 w x)) -∗ Q ⟨⟩))
      ⊢ wp frame (wpE (defs₀ (F := F)) Variants.none (c : Thread nD τ) none) Set.univ (cc0__prep_body M0 h0 M1 h1 M2 h2) Q := by
  rw [cc0__prep_body_eq_skeleton]
  unfold cc0__prep_body_skel owns
  iintro ⟨⟨%f0, %hf0, H0⟩, ⟨%f1, %hf1, H1⟩, ⟨%f2, %hf2, H2⟩, Hk⟩
  sl_exec!
  sl_step
  iapply Hk
  isplitl [H0]
  · iexists f0; isplitr; · ipureintro; exact hf0
    iexact H0
  isplitl [H1]
  · iexists f1; isplitr; · ipureintro; exact hf1
    iexact H1
  iexists _; isplitr; swap; · iexact H2
  ipureintro
  sl_unfold_words
  simp only [View.readAt_eq_ld, hf0, hf1, View.ld_unit_zero (S := S128x128) zero2, View.ld_unit_zero (S := S4096x128) zero2]
  exact store_whole M2 _ _ _ zero2 _

theorem proj_body_run (c : Dev nD) (i : grid2.Coords) (M1 : Memref sig .tc .vmem S1x4096x128 .f32) (h1 : M1.IsWhole)
    (M2 : Memref sig .tc .vmem S128x128 .f32) (h2 : M2.IsWhole) (M3 : Memref sig .tc .vmem S1x128x4096 .f32) (h3 : M3.IsWhole)
    (x : Vec F S1x4096x128 .f32) (w : Vec F S128x128 .f32) (y : Vec F S1x128x4096 .f32) (Q : PUnit → sProp 𝕄) :
    iprop(owns (c : Thread nD τ) M1 fullShare x ∗ owns (c : Thread nD τ) M2 fullShare w ∗ owns (c : Thread nD τ) M3 fullShare y
        ∗ (iprop(owns (c : Thread nD τ) M1 fullShare x ∗ owns (c : Thread nD τ) M2 fullShare w ∗ owns (c : Thread nD τ) M3 fullShare (k2_pay1 w x)) -∗ Q ⟨⟩))
      ⊢ wp frame (wpE (defs₀ (F := F)) Variants.none (c : Thread nD τ) none) Set.univ (cc2__proj_body i M1 h1 M2 h2 M3 h3) Q := by
  rw [cc2__proj_body_eq_skeleton]
  unfold cc2__proj_body_skel owns
  iintro ⟨⟨%f1, %hf1, H1⟩, ⟨%f2, %hf2, H2⟩, ⟨%f3, %hf3, H3⟩, Hk⟩
  sl_exec!
  sl_step
  iapply Hk
  isplitl [H1]
  · iexists f1; isplitr; · ipureintro; exact hf1
    iexact H1
  isplitl [H2]
  · iexists f2; isplitr; · ipureintro; exact hf2
    iexact H2
  iexists _; isplitr; swap; · iexact H3
  ipureintro
  sl_unfold_words
  simp only [View.readAt_eq_ld, hf1, hf2, View.ld_unit_zero (S := S128x128) zero2, View.ld_unit_zero (S := S1x4096x128) zero3]
  exact store_whole M3 _ _ _ zero3 _

end Cert.KernelIdeal.Work
end
-- ==== Proof.RegionsKernelIdeal.lean ====
/- The four TensorCore kernels as regions of the program: each pipeline's proof data from any contents of the device's
   arrays, and what its result array holds when it ends. -/
module

public import proofs.«01_k».proof.Proof.BodiesKernelIdeal
public import Idealize.ShloMosaic.Lib.Pipeline.ValueKit

@[expose] public section

noncomputable section

namespace Cert.KernelIdeal.Work

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Network
open Idealize.ShloMosaic.Pipeline (Dat Cfg Window BodyObligation cellOf)

variable {F : FTy → Type} [FloatOps F]

local notation "𝕄" => MT nD τ sig (HIx 1) (Elt F) ℕ UU ℕ

/-- The waits a TensorCore pipeline may have recorded: at the index of no handshake. -/
abbrev plainWaits : Set (SemLoc sig × HIx 1) := {p | p.2 = none}

/-- What the pipelines share: the scoped buffers they do not stage, the launch's debt untouched, full shares. -/
abbrev datOf (cfg : Cfg sig Λ₀) (c : Dev nD) (A : (w : Fin cfg.W) → Buf (Elt F) ((cfg.win w).arr.view.loc (c.tc : Thread nD τ)))
    (after : (w : Fin cfg.W) → Fin cfg.N → (cfg.win w).block.Idx → Elt F (cfg.win w).elt) :
    Dat τ (Elt F) (HIx 1) ℕ UU ℕ cfg c where
  A := A
  after := after
  Φ _ := Pipeline.scopedRest (Ix := HIx 1) (Name := ℕ) (U := UU) (Lvl := ℕ) (Val := Elt F) cfg.spec c
  q _ := fullShare
  owed _ := (K (F := F)).Otc c 0
  recorded _ := plainWaits

variable (V : Dev nD → Valuation τ sig (Elt F))

/-- The block of window `w` at point `t`, out of the arrays `V`. -/
abbrev blk (cfg : Cfg sig Λ₀) (c : Dev nD) (w : Fin cfg.W) (t : Fin cfg.N) : ((cfg.win w).xblock (cfg.grid.coords t)).Idx → Elt F (cfg.win w).elt :=
  ((cfg.win w).blk t).view.read (Elt F) (V c (Proc.devRef .tc (Pipeline.arrRef cfg.spec w)))

def dat0 (c : Dev nD) : Dat τ (Elt F) (HIx 1) ℕ UU ℕ cfg0 c :=
  datOf cfg0 c (fun w => V c (Proc.devRef .tc (Pipeline.arrRef spec0 w))) fun w t => match w with
    | ⟨0, _⟩ => blk V cfg0 c 0 t
    | ⟨1, _⟩ => blk V cfg0 c 1 t
    | ⟨2, _⟩ => k0_pay1 (blk V cfg0 c 0 t) (blk V cfg0 c 1 t)

def dat1 (c : Dev nD) : Dat τ (Elt F) (HIx 1) ℕ UU ℕ cfg1 c :=
  datOf cfg1 c (fun w => V c (Proc.devRef .tc (Pipeline.arrRef spec1 w))) fun w t => match w with
    | ⟨0, _⟩ => blk V cfg1 c 0 t
    | ⟨1, _⟩ => argsortBlock (blk V cfg1 c 0 t)

def dat2 (c : Dev nD) : Dat τ (Elt F) (HIx 1) ℕ UU ℕ cfg2 c :=
  datOf cfg2 c (fun w => V c (Proc.devRef .tc (Pipeline.arrRef spec2 w))) fun w t => match w with
    | ⟨0, _⟩ => blk V cfg2 c 0 t
    | ⟨1, _⟩ => blk V cfg2 c 1 t
    | ⟨2, _⟩ => k2_pay1 (blk V cfg2 c 1 t) (blk V cfg2 c 0 t)

def dat3 (c : Dev nD) : Dat τ (Elt F) (HIx 1) ℕ UU ℕ cfg3 c :=
  datOf cfg3 c (fun w => V c (Proc.devRef .tc (Pipeline.arrRef spec3 w))) fun w t => match w with
    | ⟨0, _⟩ => blk V cfg3 c 0 t
    | ⟨1, _⟩ => sortBlock (blk V cfg3 c 0 t)

/-! ## The body obligations -/

theorem before0_0 (c : Dev nD) (t : Fin cfg0.N) (d) : (dat0 V c).before 0 t d = blk V cfg0 c 0 t :=
  (dat0 V c).before_in_eq_fetched 0 rfl (fun _ => rfl) (fun _ _ _ => rfl) (fun _ => rfl) t d
theorem before0_1 (c : Dev nD) (t : Fin cfg0.N) (d) : (dat0 V c).before 1 t d = blk V cfg0 c 1 t :=
  (dat0 V c).before_in_eq_fetched 1 rfl (fun _ => rfl) (fun _ _ _ => rfl) (fun _ => rfl) t d
theorem before1_0 (c : Dev nD) (t : Fin cfg1.N) (d) : (dat1 V c).before 0 t d = blk V cfg1 c 0 t :=
  (dat1 V c).before_in_eq_fetched 0 rfl (fun _ => rfl) (fun _ _ _ => rfl) (fun _ => rfl) t d
theorem before2_0 (c : Dev nD) (t : Fin cfg2.N) (d) : (dat2 V c).before 0 t d = blk V cfg2 c 0 t :=
  (dat2 V c).before_in_eq_fetched 0 rfl (fun _ => rfl) (fun _ _ _ => rfl) (fun _ => rfl) t d
theorem before2_1 (c : Dev nD) (t : Fin cfg2.N) (d) : (dat2 V c).before 1 t d = blk V cfg2 c 1 t :=
  (dat2 V c).before_in_eq_fetched 1 rfl (fun _ => rfl) (fun _ _ _ => rfl) (fun _ => rfl) t d
theorem before3_0 (c : Dev nD) (t : Fin cfg3.N) (d) : (dat3 V c).before 0 t d = blk V cfg3 c 0 t :=
  (dat3 V c).before_in_eq_fetched 0 rfl (fun _ => rfl) (fun _ _ _ => rfl) (fun _ => rfl) t d

theorem body0 (c : Dev nD) : BodyObligation (dat0 V c) (defs₀ (F := F)) 𝒱₀ (none : HIx 1) Set.univ := fun t => by
  rw [bigSep_W0, bigSep_W0, show (dat0 V c).Φ t.succ = (dat0 V c).Φ t.castSucc from rfl,
    show (dat0 V c).owesAt none t.succ = (dat0 V c).owesAt none t.castSucc from rfl]
  iintro ⟨HΦ, Howes, ⟨%d0, H0⟩, ⟨%d1, H1⟩, ⟨%d2, H2⟩⟩
  rw [before0_0, before0_1]
  iapply (prep_body_run c (win0_0.stage (cfg0.slots t 0)) (hstage0_0 0) (win0_1.stage (cfg0.slots t 1)) (hstage0_1 0)
    (win0_2.stage (cfg0.slots t 2)) (hstage0_2 0) (blk V cfg0 c 0 t) (blk V cfg0 c 1 t) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem body1 (c : Dev nD) : BodyObligation (dat1 V c) (defs₀ (F := F)) 𝒱₀ (none : HIx 1) Set.univ := fun t => by
  rw [bigSep_W1, bigSep_W1, show (dat1 V c).Φ t.succ = (dat1 V c).Φ t.castSucc from rfl,
    show (dat1 V c).owesAt none t.succ = (dat1 V c).owesAt none t.castSucc from rfl]
  iintro ⟨HΦ, Howes, ⟨%d0, H0⟩, ⟨%d1, H1⟩⟩
  rw [before1_0]
  iapply (argsort_body_run c (grid1.coords t) (win1_0.stage (cfg1.slots t 0)) (hstage1_0 ((cfg1.slots t 0).cast nbuf1_0))
    (win1_1.stage (cfg1.slots t 1)) (hstage1_1 ((cfg1.slots t 1).cast nbuf1_1)) (blk V cfg1 c 0 t) _ _)
  isplitl [H0]; · iexact H0
  isplitl [H1]; · iexact H1
  iintro ⟨H0, H1⟩
  isplitl [HΦ]; · iexact HΦ
  isplitl [Howes]; · iexact Howes
  isplitl [H0]; · iexact H0
  iexact H1

theorem body2 (c : Dev nD) : BodyObligation (dat2 V c) (defs₀ (F := F)) 𝒱₀ (none : HIx 1) Set.univ := fun t => by
  rw [bigSep_W2, bigSep_W2, show (dat2 V c).Φ t.succ = (dat2 V c).Φ t.castSucc from rfl,
    show (dat2 V c).owesAt none t.succ = (dat2 V c).owesAt none t.castSucc from rfl]
  iintro ⟨HΦ, Howes, ⟨%d0, H0⟩, ⟨%d1, H1⟩, ⟨%d2, H2⟩⟩
  rw [before2_0, before2_1]
  iapply (proj_body_run c (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2))
    (hstage2_2 ((cfg2.slots t 2).cast nbuf2_2)) (blk V cfg2 c 0 t) (blk V cfg2 c 1 t) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem body3 (c : Dev nD) : BodyObligation (dat3 V c) (defs₀ (F := F)) 𝒱₀ (none : HIx 1) Set.univ := fun t => by
  rw [bigSep_W3, bigSep_W3, show (dat3 V c).Φ t.succ = (dat3 V c).Φ t.castSucc from rfl,
    show (dat3 V c).owesAt none t.succ = (dat3 V c).owesAt none t.castSucc from rfl]
  iintro ⟨HΦ, Howes, ⟨%d0, H0⟩, ⟨%d1, H1⟩⟩
  rw [before3_0]
  iapply (sort_body_run c (grid3.coords t) (win3_0.stage (cfg3.slots t 0)) (hstage3_0 ((cfg3.slots t 0).cast nbuf3_0))
    (win3_1.stage (cfg3.slots t 1)) (hstage3_1 ((cfg3.slots t 1).cast nbuf3_1)) (blk V cfg3 c 0 t) _ _)
  isplitl [H0]; · iexact H0
  isplitl [H1]; · iexact H1
  iintro ⟨H0, H1⟩
  isplitl [HΦ]; · iexact HΦ
  isplitl [Howes]; · iexact Howes
  isplitl [H0]; · iexact H0
  iexact H1

/-! ## What the result arrays end holding -/

/-- Two and three coordinates as an index. -/
abbrev ix2 {n m : ℕ} (i : Fin n) (j : Fin m) : (⟨2, ![n, m]⟩ : Shape).Idx := fun | ⟨0, _⟩ => i | ⟨1, _⟩ => j
abbrev ix3 {n m k : ℕ} (i : Fin n) (j : Fin m) (l : Fin k) : (⟨3, ![n, m, k]⟩ : Shape).Idx := fun | ⟨0, _⟩ => i | ⟨1, _⟩ => j | ⟨2, _⟩ => l

/-- The sequence on a row of an array of `4096` columns. -/
def seqOf {n : ℕ} {α : Type} (x : (⟨2, ![n, 4096]⟩ : Shape).Idx → α) (r : Fin n) (i : ℕ) : α := x (ix2 r (Fin.ofNat 4096 i))

/-- Every row sorted by the network, -/
def sortRows (x : Vec F S2048x4096 .f32) : Vec F S2048x4096 .f32 := fun j => run ltF (seqOf x (j 0)) 78 (j 1).val
/-- and the lane numbers, every row argsorted by it. -/
def argsortRows (x : Vec F S128x4096 .f32) : Vec F S128x4096 .i32 := fun j => (run ltP (fun i => (seqOf x (j 0) i, BitVec.ofNat 32 i)) 78 (j 1).val).2
/-- The projections of every batch. -/
def projAll (w : Vec F S128x128 .f32) (x : Vec F S16x4096x128 .f32) : Vec F S16x128x4096 .f32 := fun j =>
  k2_pay1 w (fun i => x (ix3 (j 0) (i 1) (i 2))) (ix3 (n := 1) 0 (j 1) (j 2))

theorem index3_0 : ∀ t : Fin cfg3.N, win3_0.index t = ![t.val, 0] := (by decide +kernel : ∀ t : Fin grid3.N, _)
theorem index3_1 : ∀ t : Fin cfg3.N, win3_1.index t = ![t.val, 0] := (by decide +kernel : ∀ t : Fin grid3.N, _)
theorem index0_0 : ∀ t : Fin cfg0.N, win0_0.index t = ![0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index1_0 : ∀ t : Fin cfg1.N, win1_0.index t = ![t.val, 0] := (by decide +kernel : ∀ t : Fin grid1.N, _)
theorem index1_1 : ∀ t : Fin cfg1.N, win1_1.index t = ![t.val, 0] := (by decide +kernel : ∀ t : Fin grid1.N, _)
theorem index2_0 : ∀ t : Fin cfg2.N, win2_0.index t = ![t.val, 0, 0] := (by decide +kernel : ∀ t : Fin grid2.N, _)
theorem index2_1 : ∀ t : Fin cfg2.N, win2_1.index t = ![0, 0] := (by decide +kernel : ∀ t : Fin grid2.N, _)
theorem index2_2 : ∀ t : Fin cfg2.N, win2_2.index t = ![t.val, 0, 0] := (by decide +kernel : ∀ t : Fin grid2.N, _)

theorem final3 (c : Dev nD) : (dat3 V c).arrAt 1 cfg3.N = sortRows (V c (Proc.devRef .tc main_v6)) := by
  refine (dat3 V c).arrAt_eq_of_covers 1 _ (by decide +kernel) fun t hf y => ?_
  have h1 : (((cfg3.win 1).blk t).view.emb y 1).val = (y 1).val := by blk_simp [index3_1]
  have h0 : (((cfg3.win 1).blk t).view.emb y 0).val = t.val * 8 + (y 0).val := by blk_simp [index3_1]
  have h : seqOf (V c (Proc.devRef .tc main_v6)) (((cfg3.win 1).blk t).view.emb y 0) = rowOf (blk V cfg3 c 0 t) (y 0) := funext fun i => by
    refine congrArg (V c (Proc.devRef .tc main_v6)) (funext fun a => Fin.ext ?_)
    match a with
    | ⟨0, _⟩ => exact h0.trans (by blk_simp [index3_0])
    | ⟨1, _⟩ => symm; blk_simp [index3_0]
  exact (congrArg₂ (fun f i => run ltF f 78 i) h h1).symm

theorem final1 (c : Dev nD) : (dat1 V c).arrAt 1 cfg1.N = argsortRows (V c (Proc.devRef .tc main_v3)) := by
  refine (dat1 V c).arrAt_eq_of_covers 1 _ (by decide +kernel) fun t hf y => ?_
  have h1 : (((cfg1.win 1).blk t).view.emb y 1).val = (y 1).val := by blk_simp [index1_1]
  have h0 : (((cfg1.win 1).blk t).view.emb y 0).val = t.val * 8 + (y 0).val := by blk_simp [index1_1]
  have h : seqOf (V c (Proc.devRef .tc main_v3)) (((cfg1.win 1).blk t).view.emb y 0) = rowOf (blk V cfg1 c 0 t) (y 0) := funext fun i => by
    refine congrArg (V c (Proc.devRef .tc main_v3)) (funext fun a => Fin.ext ?_)
    match a with
    | ⟨0, _⟩ => exact h0.trans (by blk_simp [index1_0])
    | ⟨1, _⟩ => symm; blk_simp [index1_0]
  change (run ltP (fun i => (rowOf (blk V cfg1 c 0 t) (y 0) i, BitVec.ofNat 32 i)) 78 (y 1).val).2 = argsortRows _ _
  unfold argsortRows
  rw [h, h1]

theorem final2 (c : Dev nD) : (dat2 V c).arrAt 2 cfg2.N = projAll (V c (Proc.devRef .tc main_v2)) (V c (Proc.devRef .tc main_arg0)) := by
  refine (dat2 V c).arrAt_eq_of_covers 2 _ (by decide +kernel) fun t hf y => ?_
  have h0 : (((cfg2.win 2).blk t).view.emb y 0).val = t.val * 1 + (y 0).val := by blk_simp [index2_2]
  have h1 : (((cfg2.win 2).blk t).view.emb y 1).val = (y 1).val := by blk_simp [index2_2]
  have h2 : (((cfg2.win 2).blk t).view.emb y 2).val = (y 2).val := by blk_simp [index2_2]
  have hw : blk V cfg2 c 1 t = V c (Proc.devRef .tc main_v2) := funext fun j => by
    refine congrArg (V c (Proc.devRef .tc main_v2)) (funext fun a => Fin.ext ?_)
    match a with
    | ⟨0, _⟩ => blk_simp [index2_1]
    | ⟨1, _⟩ => blk_simp [index2_1]
  have hx : blk V cfg2 c 0 t = fun i => V c (Proc.devRef .tc main_arg0) (ix3 (((cfg2.win 2).blk t).view.emb y 0) (i 1) (i 2)) := funext fun j => by
    refine congrArg (V c (Proc.devRef .tc main_arg0)) (funext fun a => Fin.ext ?_)
    have hj : (j 0).val = 0 := by have := (j 0).isLt; change _ < 1 at this; omega
    have hy : (y 0).val = 0 := by have := (y 0).isLt; change _ < 1 at this; omega
    match a with
    | ⟨0, _⟩ => refine Eq.trans ?_ h0.symm; blk_simp [index2_0]
    | ⟨1, _⟩ => blk_simp [index2_0]; rfl
    | ⟨2, _⟩ => blk_simp [index2_0]; rfl
  have hy : y = ix3 (n := 1) 0 (((cfg2.win 2).blk t).view.emb y 1) (((cfg2.win 2).blk t).view.emb y 2) := funext fun a => Fin.ext (by
    match a with
    | ⟨0, _⟩ => have := (y 0).isLt; change _ < 1 at this; change (y 0).val = 0; omega
    | ⟨1, _⟩ => exact h1.symm
    | ⟨2, _⟩ => exact h2.symm)
  change k2_pay1 (blk V cfg2 c 1 t) (blk V cfg2 c 0 t) y = k2_pay1 _ _ _
  rw [hw, hx]
  exact congrArg _ hy

theorem final0 (c : Dev nD) : (dat0 V c).arrAt 2 cfg0.N = k0_pay1 (V c (Proc.devRef .tc main_v2)) (V c (Proc.devRef .tc main_arg2)) := by
  refine (dat0 V c).arrAt_eq_of_covers 2 _ (by decide +kernel) fun t hf y => ?_
  have hw : blk V cfg0 c 0 t = V c (Proc.devRef .tc main_v2) := funext fun j => by
    refine congrArg (V c (Proc.devRef .tc main_v2)) (funext fun a => Fin.ext ?_)
    match a with
    | ⟨0, _⟩ => blk_simp [index0_0]
    | ⟨1, _⟩ => blk_simp [index0_0]
  have hx : blk V cfg0 c 1 t = V c (Proc.devRef .tc main_arg2) := funext fun j => by
    refine congrArg (V c (Proc.devRef .tc main_arg2)) (funext fun a => Fin.ext ?_)
    match a with
    | ⟨0, _⟩ => blk_simp [index0_1]
    | ⟨1, _⟩ => blk_simp [index0_1]
  have hy : ((cfg0.win 2).blk t).view.emb y = y := funext fun a => Fin.ext (by
    match a with
    | ⟨0, _⟩ => blk_simp [index0_2]
    | ⟨1, _⟩ => blk_simp [index0_2])
  change k0_pay1 (blk V cfg0 c 0 t) (blk V cfg0 c 1 t) y = k0_pay1 _ _ _
  rw [hw, hx]
  exact congrArg _ hy.symm

end Cert.KernelIdeal.Work
end
-- ==== Proof.SegsKernelIdeal.lean ====
/- One TensorCore kernel as a segment of @main while the SparseCore call is still owed: entered with every unscoped buffer
   held at a valuation, left with the kernel's result array changed, the recorded waits all at the index of no handshake. -/
module

public import proofs.«01_k».proof.Proof.RegionsKernelIdeal
public import Idealize.ShloMosaic.Lib.Pipeline.RegionArraysS

@[expose] public section

noncomputable section

namespace Cert.KernelIdeal.Work

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ucRefs afterRegion afterRegion_arr afterRegion_keeps afterRegion_off)
open Idealize.ShloMosaic.StableHlo (held)
open Cert.Network

variable {F : FTy → Type} [FloatOps F]

local notation "𝕄" => MT nD τ sig (HIx 1) (Elt F) ℕ UU ℕ

/-- What a core owes before the SparseCore call: the call's hand-offs, its waits so far at the index of none of them. -/
abbrev debt (c : Dev nD) : sProp 𝕄 := iprop(∃ Wd : Finset (SemLoc sig × HIx 1), ⌜∀ p ∈ Wd, p.2 = none⌝ ∗ owes (c : Thread nD τ) ((K (F := F)).Otc c 0) Wd)

/-- No hand-off is owed at the index of none. -/
theorem Otc_none (c : Dev nD) (g : GSem nD τ sig) : (K (F := F)).Otc c 0 g none = 0 := by
  by_contra h
  have := (K (F := F)).lev_of_Otc_pos (Nat.pos_of_ne_zero h)
  exact absurd this (by simp [SparseCore.Cfg.lev])

abbrev adm : (p : Fin 4) → (pcfgs (F := F) p).Adm := fun p => (cfgs p).toPCfg_adm

section Region

variable (pdats : (p : Fin 4) → (c : Dev nD) → Dat τ (Elt F) (HIx 1) ℕ UU ℕ (Pipeline.pin (pcfgs (F := F)) adm p) c) (p : Fin 4)

section Facts

variable {pdats p} {W : Dev nD → Valuation τ sig (Elt F)} {c : Dev nD}
  (h : ∃ after, pdats p c = datOf (Pipeline.pin (pcfgs (F := F)) adm p) c (fun w => W c (Proc.devRef .tc (Pipeline.arrRef (Pipeline.pin (pcfgs (F := F)) adm p).spec w))) after)

include h

theorem owed_of (t) : (pdats p c).owed t = (K (F := F)).Otc c 0 := by obtain ⟨_, h⟩ := h; rw [h]
theorem recorded_of (t) : (pdats p c).recorded t = plainWaits := by obtain ⟨_, h⟩ := h; rw [h]
theorem share_of (w) : (pdats p c).share w = fullShare := by obtain ⟨_, h⟩ := h; rw [h]; exact Dat.share_full _ (fun _ => rfl) w
theorem inv_of (t) : (pdats p c).Φ t = Pipeline.scopedRest (Ix := HIx 1) (Name := ℕ) (U := UU) (Lvl := ℕ) (Val := Elt F) (Pipeline.pin (pcfgs (F := F)) adm p).spec c := by
  obtain ⟨_, h⟩ := h; rw [h]
theorem start_of (w) : (pdats p c).A w = W c (Proc.devRef .tc (Pipeline.arrRef (Pipeline.pin (pcfgs (F := F)) adm p).spec w)) := by obtain ⟨_, h⟩ := h; rw [h]

end Facts

set_option backward.isDefEq.respectTransparency.types false in
/-- A pipeline as a region, from the facts of its proof data. -/
def region (kit : Pipeline.PLaunchFacts (nD := nD) (τ := τ) (pcfgs (F := F)) p) (hS : Pipeline.arrRefs (pcfgs (F := F) p).spec ⊆ ucRefs τ sig)
    (hK : (pcfgs (F := F) p).pre.K = 0)
    (hbody : ∀ c, BodyObligationLoose (pdats p c) (defs₀ (F := F)) 𝒱₀ (none : HIx 1) Set.univ)
    (W : Dev nD → Valuation τ sig (Elt F))
    (h : ∀ c, ∃ after, pdats p c = datOf (Pipeline.pin (pcfgs (F := F)) adm p) c (fun w => W c (Proc.devRef .tc (Pipeline.arrRef (Pipeline.pin (pcfgs (F := F)) adm p).spec w))) after) :
    Pipeline.RegionSeg (pcfgs (F := F)) adm pdats (none : HIx 1) (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_intro (Pipeline.pin (pcfgs (F := F)) adm) pdats none p c fun w s t => by
    rw [owed_of (h c)]; exact (K (F := F)).mayWait_none (.dma _) (Otc_none c)
  pre c := iprop(held (c.tc : Thread nD τ) (ucRefs τ sig) (W c) ∗ debt c)
  post c := iprop(held (c.tc : Thread nD τ) (ucRefs τ sig) (afterRegion (pdats p c) (W c)) ∗ debt c)
  X _ := BI.emp
  Y _ := BI.emp
  Z c := held (c.tc : Thread nD τ) (ucRefs τ sig \ Pipeline.arrRefs (pcfgs (F := F) p).spec) (W c)
  hentry c := by
    rw [Pipeline.ownSems0_none, Pipeline.prefHeld_of_none _ hK,
      Pipeline.arrays_held (pcfgs (F := F)) adm pdats p kit c (share_of (h c)) ((pdats p c).arrAt · 0) (W c) (start_of (h c)),
      StableHlo.held_sub_split (c.tc : Thread nD τ) hS]
    iintro ⟨⟨⟨Ha, Hrest⟩, HO⟩, -, -⟩
    imodintro
    isplitl [Ha]; · iexact Ha
    isplitr; · iempintro
    isplitl [HO]
    · unfold Pipeline.Dat.owesAt Pipeline.owesWithin Pipeline.Dat.bound
      rw [owed_of (h c), recorded_of (h c)]
      icases HO with ⟨%Wd, %hWd, HO⟩; iexists Wd; isplitr; · ipureintro; exact fun q hq => Or.inl (hWd q hq)
      iexact HO
    isplitr; · iempintro
    iexact Hrest
  hin c := by
    rw [inv_of (h c)]
    iintro ⟨-, -, Hr⟩; iexact Hr
  hout c := by
    rw [Pipeline.ownSems0_none, inv_of (h c)]
    iintro Hr
    isplitr; · iempintro
    isplitr; · iempintro
    iexact Hr
  hexit c := by
    rw [Pipeline.arrays_held (pcfgs (F := F)) adm pdats p kit c (share_of (h c)) ((pdats p c).arrAt · _) (afterRegion (pdats p c) (W c))
        fun w => (afterRegion_arr (pdats p c) (W c) kit.win.arr_inj w).symm,
      StableHlo.held_sub_split (c.tc : Thread nD τ) hS (afterRegion (pdats p c) (W c)),
      StableHlo.held_congr (c.tc : Thread nD τ) (S := ucRefs τ sig \ Pipeline.arrRefs (pcfgs (F := F) p).spec) (V := afterRegion (pdats p c) (W c)) (V' := W c)
        (afterRegion_off (pdats p c) (W c) (ucRefs τ sig))]
    iintro ⟨Ha, HO, -, Hrest⟩
    imodintro
    isplitl [Ha Hrest]
    · isplitl [Ha]; · iexact Ha
      iexact Hrest
    unfold Pipeline.Dat.owesAt Pipeline.owesWithin Pipeline.Dat.bound
    rw [owed_of (h c), recorded_of (h c)]
    icases HO with ⟨%Wd, %hWd, HO⟩; iexists Wd; isplitr
    · ipureintro
      intro q hq
      rcases hWd hq with hp | hp
      · exact hp
      · obtain ⟨w, s, rfl⟩ := hp; rfl
    iexact HO

end Region

/-! ## The program up to the SparseCore call -/

/-- The directions' normalisation, -/
def opsA : List (HloOp τ sig (Elt F)) :=
  [StableHlo.TRef.binary (.of main_arg1 : StableHlo.TRef sig ⟨S128x128, .f32⟩) (.of main_arg1) main_call0.v0 mulf,
   StableHlo.TRef.nullary main_call0.cst (constant S_ .f32 0x00000000#32),
   StableHlo.TRef.binary main_call0.v0 main_call0.cst main_call0.v1 (fun x v => Host.reduceAdd x v reducesTo_S128x128_S128_d1 h_S_),
   StableHlo.TRef.unary main_call0.v1 main_call0.v2 (broadcastInDim S128x1 ![0] bcast_S128_S128x1_0),
   StableHlo.TRef.unary main_call0.v2 main_call0.v3 Host.sqrt,
   StableHlo.unary main_v0 main_v1 (broadcastInDim S128x128 ![0, 1] bcast_S128x1_S128x128_0_1 : (⟨S128x1, .f32⟩ : BufTy).Contents (Elt F) → (⟨S128x128, .f32⟩ : BufTy).Contents (Elt F)),
   StableHlo.binary main_arg1 main_v1 main_v2 (Host.divf : (⟨S128x128, .f32⟩ : BufTy).Contents (Elt F) → (⟨S128x128, .f32⟩ : BufTy).Contents (Elt F) → (⟨S128x128, .f32⟩ : BufTy).Contents (Elt F))]
/-- the projections' rows one below the other, -/
def opsB : List (HloOp τ sig (Elt F)) := [StableHlo.reshape main_v5 main_v6 (rfl : (.f32 : EltTy) = .f32) shapeCasts_S16x128x4096_S2048x4096]
/-- and back by batches. -/
def opsC : List (HloOp τ sig (Elt F)) := [StableHlo.reshape main_v7 main_v8 (rfl : (.f32 : EltTy) = .f32) shapeCasts_S2048x4096_S16x128x4096]

variable (W : Dev nD → Valuation τ sig (Elt F))

/-- The device's buffers after each stretch of @main, from `W`. -/
def V0 (c : Dev nD) : Valuation τ sig (Elt F) := StableHlo.after opsA (W c)
def V1 (c : Dev nD) : Valuation τ sig (Elt F) := afterRegion (dat0 (V0 W) c) (V0 W c)
def V2 (c : Dev nD) : Valuation τ sig (Elt F) := afterRegion (dat1 (V1 W) c) (V1 W c)
def V3 (c : Dev nD) : Valuation τ sig (Elt F) := afterRegion (dat2 (V2 W) c) (V2 W c)
def V4 (c : Dev nD) : Valuation τ sig (Elt F) := StableHlo.after opsB (V3 W c)
def V5 (c : Dev nD) : Valuation τ sig (Elt F) := afterRegion (dat3 (V4 W) c) (V4 W c)
def V6 (c : Dev nD) : Valuation τ sig (Elt F) := StableHlo.after opsC (V5 W c)

def pdats : (p : Fin 4) → (c : Dev nD) → Dat τ (Elt F) (HIx 1) ℕ UU ℕ (Pipeline.pin (pcfgs (F := F)) adm p) c
  | ⟨0, _⟩ => fun c => dat0 (V0 W) c
  | ⟨1, _⟩ => fun c => dat1 (V1 W) c
  | ⟨2, _⟩ => fun c => dat2 (V2 W) c
  | ⟨3, _⟩ => fun c => dat3 (V4 W) c

abbrev Segm : Type 1 := Pipeline.Seg (pcfgs (F := F)) adm (pdats W) (none : HIx 1) (defs₀ (F := F)) 𝒱₀ (K (F := F)).L (K (F := F)).lev
abbrev Hst : Type 1 := Pipeline.HostSeg (Val := Elt F) (Ix := HIx 1) (Name := ℕ) (U := UU) (pcfgs (F := F)) (defs₀ (F := F)) 𝒱₀ (K (F := F)).L (K (F := F)).lev

theorem opsA_sub : ∀ op ∈ opsA (F := F), op.bufs ⊆ ucRefs τ sig := List.forall_iff_forall_mem.mp
  ⟨Pipeline.sub_ucRefs _ (StableHlo.binary_bufs_sub ..), Pipeline.sub_ucRefs _ (StableHlo.nullary_bufs_sub ..), Pipeline.sub_ucRefs _ (StableHlo.binary_bufs_sub ..),
    Pipeline.sub_ucRefs _ (StableHlo.unary_bufs_sub ..), Pipeline.sub_ucRefs _ (StableHlo.unary_bufs_sub ..), Pipeline.sub_ucRefs _ (StableHlo.unary_bufs_sub ..),
    Pipeline.sub_ucRefs _ (StableHlo.binary_bufs_sub ..)⟩
theorem opsB_sub : ∀ op ∈ opsB (F := F), op.bufs ⊆ ucRefs τ sig := fun op h => by
  obtain rfl := List.mem_singleton.mp h; exact Pipeline.sub_ucRefs _ (StableHlo.reshape_bufs_sub ..)
theorem opsC_sub : ∀ op ∈ opsC (F := F), op.bufs ⊆ ucRefs τ sig := fun op h => by
  obtain rfl := List.mem_singleton.mp h; exact Pipeline.sub_ucRefs _ (StableHlo.reshape_bufs_sub ..)
theorem opsA_fresh : ∀ op ∈ opsA (F := F), op.fresh = ∅ := List.forall_iff_forall_mem.mp ⟨rfl, rfl, rfl, rfl, rfl, rfl, rfl⟩
theorem opsB_fresh : ∀ op ∈ opsB (F := F), op.fresh = ∅ := fun op h => by obtain rfl := List.mem_singleton.mp h; rfl
theorem opsC_fresh : ∀ op ∈ opsC (F := F), op.fresh = ∅ := fun op h => by obtain rfl := List.mem_singleton.mp h; rfl

def hostA : Hst (F := F) := Pipeline.HostSeg.ofOps _ _ _ _ _ (ucRefs τ sig) opsA opsA_sub opsA_fresh W debt
def hostB : Hst (F := F) := Pipeline.HostSeg.ofOps _ _ _ _ _ (ucRefs τ sig) opsB opsB_sub opsB_fresh (V3 W) debt
def hostC : Hst (F := F) := Pipeline.HostSeg.ofOps _ _ _ _ _ (ucRefs τ sig) opsC opsC_sub opsC_fresh (V5 W) debt

abbrev Reg (p : Fin 4) : Type 1 :=
  Pipeline.RegionSeg (pcfgs (F := F)) adm (pdats W) (none : HIx 1) (defs₀ (F := F)) 𝒱₀ (K (F := F)).L (K (F := F)).lev p

def reg0 : Reg W 0 :=
  region (pdats W) 0 launch0.toP (Pipeline.arrRefs_sub_ucRefs _ (by decide : ∀ w : Fin 3, (Pipeline.arrRef spec0 w).isScoped = false)) rfl
    (fun c => (body0 (V0 W) c).loose) (V0 W) fun _ => ⟨_, rfl⟩
def reg1 : Reg W 1 :=
  region (pdats W) 1 launch1.toP (Pipeline.arrRefs_sub_ucRefs _ (by decide : ∀ w : Fin 2, (Pipeline.arrRef spec1 w).isScoped = false)) rfl
    (fun c => (body1 (V1 W) c).loose) (V1 W) fun _ => ⟨_, rfl⟩
def reg2 : Reg W 2 :=
  region (pdats W) 2 launch2.toP (Pipeline.arrRefs_sub_ucRefs _ (by decide : ∀ w : Fin 3, (Pipeline.arrRef spec2 w).isScoped = false)) rfl
    (fun c => (body2 (V2 W) c).loose) (V2 W) fun _ => ⟨_, rfl⟩
def reg3 : Reg W 3 :=
  region (pdats W) 3 launch3.toP (Pipeline.arrRefs_sub_ucRefs _ (by decide : ∀ w : Fin 2, (Pipeline.arrRef spec3 w).isScoped = false)) rfl
    (fun c => (body3 (V4 W) c).loose) (V4 W) fun _ => ⟨_, rfl⟩

def segs : List (Segm W) := [.host (hostA W), .region (reg0 W), .region (reg1 W), .region (reg2 W), .host (hostB W), .region (reg3 W), .host (hostC W)]

theorem segs_chain : Pipeline.Seg.Chains (fun c => iprop(held (c.tc : Thread nD τ) (ucRefs τ sig) (W c) ∗ debt c)) (segs W)
    (fun c => iprop(held (c.tc : Thread nD τ) (ucRefs τ sig) (V6 W c) ∗ debt c)) :=
  ⟨fun _ => BI.Entails.refl _, fun _ => BI.Entails.refl _, fun _ => BI.Entails.refl _, fun _ => BI.Entails.refl _, fun _ => BI.Entails.refl _,
    fun _ => BI.Entails.refl _, fun _ => BI.Entails.refl _, fun _ => BI.Entails.refl _⟩

/-- @main is the segments, then the SparseCore call. -/
theorem main_eq (d : Dev nD) : main (F := F) d = SparseCore.liftProg (Pipeline.Seg.run (segs W)) >>= fun _ => (sc (F := F)).run d 0 := by
  simp only [main, segs, Pipeline.Seg.run, hostA, hostB, hostC, Pipeline.HostSeg.ofOps, opsA, opsB, opsC, StableHlo.seq, fn_norm.body, Prog.lift,
    Prog.bind_op, Prog.bind_ret, Prog.bind_assoc, Prog.pure_eq_ret]
  rfl

end Cert.KernelIdeal.Work
end
-- ==== Proof.ValuesKernelIdeal.lean ====
/- What the four regions and the host's operations leave in the buffers the SparseCore call reads. -/
module

public import proofs.«01_k».proof.Proof.SegsKernelIdeal

@[expose] public section

noncomputable section

namespace Cert.KernelIdeal.Work

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ucRefs afterRegion afterRegion_arr afterRegion_keeps afterRegion_off)
open Idealize.ShloMosaic.StableHlo (held)
open Cert.Network

variable {F : FTy → Type} [FloatOps F]

local notation "𝕄" => MT nD τ sig (HIx 1) (Elt F) ℕ UU ℕ

variable (W : Dev nD → Valuation τ sig (Elt F)) (c : Dev nD)

/-! ## What each step keeps -/

theorem keepA {r : Ref sig .tc} (h : r ∉ [(main_call0_v0 : Ref sig .tc), main_call0_cst, main_call0_v1, main_call0_v2, main_v0, main_v1, main_v2]) :
    V0 W c (Proc.devRef .tc r) = W c (Proc.devRef .tc r) :=
  StableHlo.after_of_writes_sub (opsA (F := F)) (W c) (StableHlo.forall_writes_sub_of_map rfl) h

theorem keep0 {r : Ref sig .tc} (h : main_v3 ≠ r) : V1 W c (Proc.devRef .tc r) = V0 W c (Proc.devRef .tc r) :=
  afterRegion_keeps (dat0 (V0 W) c) (V0 W c) launch0.win.arr_inj (fun _ => rfl) r
    (fun | 0 => fun _ => rfl | 1 => fun _ => rfl | 2 => fun e => absurd e h | ⟨_ + 3, h⟩ => absurd h (Nat.not_lt.2 (Nat.le_add_left _ _)))

theorem keep1 {r : Ref sig .tc} (h : main_v4 ≠ r) : V2 W c (Proc.devRef .tc r) = V1 W c (Proc.devRef .tc r) :=
  afterRegion_keeps (dat1 (V1 W) c) (V1 W c) launch1.win.arr_inj (fun _ => rfl) r
    (fun | 0 => fun _ => rfl | 1 => fun e => absurd e h | ⟨_ + 2, h⟩ => absurd h (Nat.not_lt.2 (Nat.le_add_left _ _)))

theorem keep2 {r : Ref sig .tc} (h : main_v5 ≠ r) : V3 W c (Proc.devRef .tc r) = V2 W c (Proc.devRef .tc r) :=
  afterRegion_keeps (dat2 (V2 W) c) (V2 W c) launch2.win.arr_inj (fun _ => rfl) r
    (fun | 0 => fun _ => rfl | 1 => fun _ => rfl | 2 => fun e => absurd e h | ⟨_ + 3, h⟩ => absurd h (Nat.not_lt.2 (Nat.le_add_left _ _)))

theorem keepB {r : Ref sig .tc} (h : r ∉ [(main_v6 : Ref sig .tc)]) : V4 W c (Proc.devRef .tc r) = V3 W c (Proc.devRef .tc r) :=
  StableHlo.after_of_writes_sub (opsB (F := F)) (V3 W c) (StableHlo.forall_writes_sub_of_map rfl) h

theorem keep3 {r : Ref sig .tc} (h : main_v7 ≠ r) : V5 W c (Proc.devRef .tc r) = V4 W c (Proc.devRef .tc r) :=
  afterRegion_keeps (dat3 (V4 W) c) (V4 W c) launch3.win.arr_inj (fun _ => rfl) r
    (fun | 0 => fun _ => rfl | 1 => fun e => absurd e h | ⟨_ + 2, h⟩ => absurd h (Nat.not_lt.2 (Nat.le_add_left _ _)))

theorem keepC {r : Ref sig .tc} (h : r ∉ [(main_v8 : Ref sig .tc)]) : V6 W c (Proc.devRef .tc r) = V5 W c (Proc.devRef .tc r) :=
  StableHlo.after_of_writes_sub (opsC (F := F)) (V5 W c) (StableHlo.forall_writes_sub_of_map rfl) h

/-- A buffer none of the steps writes is as it was. -/
theorem keepAll {r : Ref sig .tc} (hA : r ∉ [(main_call0_v0 : Ref sig .tc), main_call0_cst, main_call0_v1, main_call0_v2, main_v0, main_v1, main_v2])
    (h3 : main_v3 ≠ r) (h4 : main_v4 ≠ r) (h5 : main_v5 ≠ r) (h6 : r ∉ [(main_v6 : Ref sig .tc)]) (h7 : main_v7 ≠ r) (h8 : r ∉ [(main_v8 : Ref sig .tc)]) :
    V6 W c (Proc.devRef .tc r) = W c (Proc.devRef .tc r) := by
  rw [keepC W c h8, keep3 W c h7, keepB W c h6, keep2 W c h5, keep1 W c h4, keep0 W c h3, keepA W c hA]

theorem V6_arg0 : V6 W c (Proc.devRef .tc main_arg0) = W c (Proc.devRef .tc main_arg0) :=
  keepAll W c (by decide) (by decide) (by decide) (by decide) (by decide) (by decide) (by decide)
theorem V6_arg1 : V6 W c (Proc.devRef .tc main_arg1) = W c (Proc.devRef .tc main_arg1) :=
  keepAll W c (by decide) (by decide) (by decide) (by decide) (by decide) (by decide) (by decide)
theorem V6_arg2 : V6 W c (Proc.devRef .tc main_arg2) = W c (Proc.devRef .tc main_arg2) :=
  keepAll W c (by decide) (by decide) (by decide) (by decide) (by decide) (by decide) (by decide)
theorem V6_v9 : V6 W c (Proc.devRef .tc main_v9) = W c (Proc.devRef .tc main_v9) :=
  keepAll W c (by decide) (by decide) (by decide) (by decide) (by decide) (by decide) (by decide)

/-! ## What the steps compute, as plain functions of the arguments -/

/-- The weight's rows, each divided by its length. -/
def unitRows (w : FVec F S128x128 .f32) : FVec F S128x128 .f32 :=
  Host.divf w (broadcastInDim S128x128 ![0, 1] bcast_S128x1_S128x128_0_1 (Host.sqrt (broadcastInDim S128x1 ![0] bcast_S128_S128x1_0
    (Host.reduceAdd (mulf w w) (constant S_ .f32 0x00000000#32) reducesTo_S128x128_S128_d1 h_S_))))

/-- The reference points' projections, one direction to a row; -/
def refRows (w : FVec F S128x128 .f32) (p : FVec F S4096x128 .f32) : FVec F S128x4096 .f32 := k0_pay1 (unitRows w) p
/-- the order each row of them sorts in; -/
def refOrder (w : FVec F S128x128 .f32) (p : FVec F S4096x128 .f32) : Vec F S128x4096 .i32 := argsortRows (refRows w p)
/-- and the samples' projections, every row sorted. -/
def sampleRows (w : FVec F S128x128 .f32) (x : FVec F S16x4096x128 .f32) : FVec F S16x128x4096 .f32 :=
  shapeCast S16x128x4096 (sortRows (shapeCast S2048x4096 (projAll (unitRows w) x) shapeCasts_S16x128x4096_S2048x4096)) shapeCasts_S2048x4096_S16x128x4096

theorem V0_v2 : V0 W c (Proc.devRef .tc main_v2) = unitRows (W c (Proc.devRef .tc main_arg1)) := by
  unfold V0 opsA
  after_results_simp
  rfl

theorem V6_v3 : V6 W c (Proc.devRef .tc main_v3) = refRows (W c (Proc.devRef .tc main_arg1)) (W c (Proc.devRef .tc main_arg2)) := by
  rw [keepC W c (by decide), keep3 W c (by decide), keepB W c (by decide), keep2 W c (by decide), keep1 W c (by decide)]
  refine (afterRegion_arr (dat0 (V0 W) c) (V0 W c) launch0.win.arr_inj 2).trans ((final0 (V0 W) c).trans ?_)
  rw [V0_v2, keepA W c (r := main_arg2) (by decide)]; rfl

theorem V6_v4 : V6 W c (Proc.devRef .tc main_v4) = refOrder (W c (Proc.devRef .tc main_arg1)) (W c (Proc.devRef .tc main_arg2)) := by
  rw [keepC W c (by decide), keep3 W c (by decide), keepB W c (by decide), keep2 W c (by decide)]
  refine (afterRegion_arr (dat1 (V1 W) c) (V1 W c) launch1.win.arr_inj 1).trans ((final1 (V1 W) c).trans ?_)
  rw [← keep1 W c (r := main_v3) (by decide), ← keep2 W c (r := main_v3) (by decide), ← keepB W c (r := main_v3) (by decide),
    ← keep3 W c (r := main_v3) (by decide), ← keepC W c (r := main_v3) (by decide), V6_v3]; rfl

theorem V3_v5 : V3 W c (Proc.devRef .tc main_v5) = projAll (unitRows (W c (Proc.devRef .tc main_arg1))) (W c (Proc.devRef .tc main_arg0)) := by
  refine (afterRegion_arr (dat2 (V2 W) c) (V2 W c) launch2.win.arr_inj 2).trans ((final2 (V2 W) c).trans ?_)
  rw [keep1 W c (r := main_v2) (by decide), keep0 W c (r := main_v2) (by decide), V0_v2,
    keep1 W c (r := main_arg0) (by decide), keep0 W c (r := main_arg0) (by decide), keepA W c (r := main_arg0) (by decide)]

theorem V6_v8 : V6 W c (Proc.devRef .tc main_v8) = sampleRows (W c (Proc.devRef .tc main_arg1)) (W c (Proc.devRef .tc main_arg0)) := by
  have h4 : V4 W c (Proc.devRef .tc main_v6) = shapeCast S2048x4096 (V3 W c (Proc.devRef .tc main_v5)) shapeCasts_S16x128x4096_S2048x4096 := by
    unfold V4 opsB; after_results_simp; rfl
  have h6 : V6 W c (Proc.devRef .tc main_v8) = shapeCast S16x128x4096 (V5 W c (Proc.devRef .tc main_v7)) shapeCasts_S2048x4096_S16x128x4096 := by
    unfold V6 opsC; after_results_simp; rfl
  have h5 : V5 W c (Proc.devRef .tc main_v7) = sortRows (V4 W c (Proc.devRef .tc main_v6)) :=
    (afterRegion_arr (dat3 (V4 W) c) (V4 W c) launch3.win.arr_inj 1).trans (final3 (V4 W) c)
  rw [h6, h5, h4, V3_v5]; rfl

/-- Every entry of the order is a place in the row. -/
theorem refOrder_lt (w : FVec F S128x128 .f32) (p : FVec F S4096x128 .f32) (j : S128x4096.Idx) : (refOrder w p j).toNat < 4096 :=
  run_all (f := fun i => (seqOf (refRows w p) (j 0) i, BitVec.ofNat 32 i)) ltP (fun v => v.2.toNat < 4096)
    (fun i hi => by show i % 2 ^ 32 < 4096; omega) 78 le_rfl (j 1).val (j 1).isLt

end Cert.KernelIdeal.Work
end
-- ==== Proof.TileKernelIdeal.lean ====
/- One tile of the SparseCore call: four slabs, each a row of indices and a row of reference values fetched once, and
   sixteen rows of sorted values, gathered by the indices, subtracted and written out. -/
module

public import proofs.«01_k».proof.Proof.RegionsKernelIdeal

@[expose] public section

noncomputable section

namespace Cert.KernelIdeal.Work

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The arrays and the scratch rows -/

/-- Sorted slices, transposed. -/
abbrev xsA : Memref sig .scVector .hbm S16x128x4096 .f32 := Memref.whole main_v8_scv
/-- Reference slices, transposed. -/
abbrev rA : Memref sig .scVector .hbm S128x4096 .f32 := Memref.whole main_v3_scv
/-- Their ranks. -/
abbrev iA : Memref sig .scVector .hbm S128x4096 .i32 := Memref.whole main_v4_scv
/-- The result. -/
abbrev oA : Memref sig .scVector .hbm S16x524288 .f32 := Memref.whole main_v9_scv
abbrev iS : Memref sig .scVector .vmem S4096 .i32 := Memref.whole cc4_scratch0
abbrev rS : Memref sig .scVector .vmem S4096 .f32 := Memref.whole cc4_scratch1
abbrev xS : Memref sig .scVector .vmem S4096 .f32 := Memref.whole cc4_scratch2
abbrev oS : Memref sig .scVector .vmem S4096 .f32 := Memref.whole cc4_scratch3

/-- The tile's place among the SparseCores and the subcores. -/
abbrev cV (L : grid4.Coords) : Fin τ.nSC := (L 0).castLE hcore4
abbrev jV (L : grid4.Coords) : Fin τ.nSub := (L 1).castLE hsub4

/-- A row of a 128-row array, a row of one batch's sorted slices, a row of the result, by their offsets. -/
abbrev rowI (o : Fin 2 → Nat) (h : ∀ a, o a + S1x4096.size a ≤ S128x4096.size a) : Memref sig .scVector .hbm S4096 .i32 :=
  (iA.slice (Rect.unit (s := S128x4096) o S1x4096.size h) (fun _ => rfl)).squeeze S4096 squeezes_S1x4096_S4096
abbrev rowR (o : Fin 2 → Nat) (h : ∀ a, o a + S1x4096.size a ≤ S128x4096.size a) : Memref sig .scVector .hbm S4096 .f32 :=
  (rA.slice (Rect.unit (s := S128x4096) o S1x4096.size h) (fun _ => rfl)).squeeze S4096 squeezes_S1x4096_S4096
abbrev rowX (o : Fin 3 → Nat) (h : ∀ a, o a + S1x1x4096.size a ≤ S16x128x4096.size a) : Memref sig .scVector .hbm S4096 .f32 :=
  (xsA.slice (Rect.unit (s := S16x128x4096) o S1x1x4096.size h) (fun _ => rfl)).squeeze S4096 squeezes_S1x1x4096_S4096
abbrev rowO (o : Fin 2 → Nat) (h : ∀ a, o a + S1x4096.size a ≤ S16x524288.size a) : Memref sig .scVector .hbm S4096 .f32 :=
  (oA.slice (Rect.unit (s := S16x524288) o S1x4096.size h) (fun _ => rfl)).squeeze S4096 squeezes_S1x4096_S4096

/-! ## The program of one slab -/

section Prog

variable (L : grid4.Coords)

/-- Sixteen elements: indices, the gather by them, the reference values less what was gathered. -/
def lanes (k : Fin k4_t2_loop.trips) (_ : BitVec 32) : Prog (TpuEff nD τ sig (Elt F) Λ₀ (.scVector (cV L) (jV L))) (BitVec 32) := do
  let v : Vec F S16 .i32 ← Prog.lift (.load iS (Rect.unit (s := S4096) (k4_off3 k) S16.size (k4_off3_inb k)).toLoadRect (View.loadsAt_vmem h_S16))
  have hw : k4_chk1 v := (← Prog.lift (TpuEff.assume (k4_chk1 v) (k4_chk1.dec v))).down
  let x : Vec F S16 .f32 ← SparseCore.vectorLoadIdx xS ![v] (k4_idx1_inb v hw) (View.loads_vmem h_S4096)
  let r : Vec F S16 .f32 ← Prog.lift (.load rS (Rect.unit (s := S4096) (k4_off4 k) S16.size (k4_off4_inb k)).toLoadRect (View.loadsAt_vmem h_S16))
  let _ : Vec F S16 .f32 ← Prog.lift (.load oS (Rect.unit (s := S4096) (k4_off4 k) S16.size (k4_off4_inb k)).toLoadRect (View.loadsAt_vmem h_S16))
  Prog.lift (.store oS (Rect.unit (s := S4096) (k4_off4 k) S16.size (k4_off4_inb k)) (k4_pay1 x r) Finset.univ (View.stores_vmem_bits_univ h_S16 rfl) (.inl rfl))
  pure 0#32

variable (semI semR semX semO : DmaSems sig S_)
  (o1 : Fin 2 → Nat) (h1 : ∀ a, o1 a + S1x4096.size a ≤ S128x4096.size a)
  (o2 : Fin k4_t1_loop.trips → Fin 3 → Nat) (h2 : ∀ t a, o2 t a + S1x1x4096.size a ≤ S16x128x4096.size a)
  (o5 : Fin k4_t1_loop.trips → Fin 2 → Nat) (h5 : ∀ t a, o5 t a + S1x4096.size a ≤ S16x524288.size a)

/-- One batch of a slab: its row of sorted values in, the 256 groups of lanes, the row of results out. -/
def batch (t : Fin k4_t1_loop.trips) (_ : BitVec 32) : Prog (TpuEff nD τ sig (Elt F) Λ₀ (.scVector (cV L) (jV L))) (BitVec 32) := do
  Prog.lift (.enqueueDma (rowX (o2 t) (h2 t)) (.here xS) (.dma semX.sem) ((View.wordExact_bits rfl).reshape _ _) (Memref.isWhole_whole _).wordExact ⟨Or.inl rfl, trivial⟩)
  Prog.lift (.waitDma2 semX.sem (rowX (o2 t) (h2 t)) xS ((View.wordExact_bits rfl).reshape _ _) (Memref.isWhole_whole _).wordExact)
  let _ : BitVec 32 ← Scf.Loop.for k4_t2_loop k4_t2_ok 0#32 (lanes (F := F) L)
  Prog.lift (.enqueueDma oS (.here (rowO (o5 t) (h5 t))) (.dma semO.sem) (Memref.isWhole_whole _).wordExact ((View.wordExact_bits rfl).reshape _ _) ⟨Or.inl rfl, trivial⟩)
  Prog.lift (.waitDma2 semO.sem oS (rowO (o5 t) (h5 t)) (Memref.isWhole_whole _).wordExact ((View.wordExact_bits rfl).reshape _ _))
  pure 0#32

/-- One slab: its row of indices and of reference values in, then the sixteen batches. -/
def slab : Prog (TpuEff nD τ sig (Elt F) Λ₀ (.scVector (cV L) (jV L))) PUnit := do
  Prog.lift (.enqueueDma (rowI o1 h1) (.here iS) (.dma semI.sem) ((View.wordExact_bits rfl).reshape _ _) (Memref.isWhole_whole _).wordExact ⟨Or.inl rfl, trivial⟩)
  Prog.lift (.waitDma2 semI.sem (rowI o1 h1) iS ((View.wordExact_bits rfl).reshape _ _) (Memref.isWhole_whole _).wordExact)
  Prog.lift (.enqueueDma (rowR o1 h1) (.here rS) (.dma semR.sem) ((View.wordExact_bits rfl).reshape _ _) (Memref.isWhole_whole _).wordExact ⟨Or.inl rfl, trivial⟩)
  Prog.lift (.waitDma2 semR.sem (rowR o1 h1) rS ((View.wordExact_bits rfl).reshape _ _) (Memref.isWhole_whole _).wordExact)
  let _ : BitVec 32 ← Scf.Loop.for k4_t1_loop k4_t1_ok 0#32 (batch (F := F) L semX semO o2 h2 o5 h5)
  pure ⟨⟩

/-- The tile's whole program is its four slabs in turn. -/
theorem body_eq :
    cc4__sc_body (F := F) L xsA (Memref.isWhole_whole _) rA (Memref.isWhole_whole _) iA (Memref.isWhole_whole _) oA (Memref.isWhole_whole _)
        iS (Memref.isWhole_whole _) rS (Memref.isWhole_whole _) xS (Memref.isWhole_whole _) oS (Memref.isWhole_whole _)
        cc4_scoped0 cc4_scoped1 cc4_scoped2 cc4_scoped3 cc4_scoped4 cc4_scoped5 cc4_scoped6 cc4_scoped7
        cc4_scoped8 cc4_scoped9 cc4_scoped10 cc4_scoped11 cc4_scoped12 cc4_scoped13 cc4_scoped14 cc4_scoped15
      = (do
          slab (F := F) L cc4_scoped0 cc4_scoped1 cc4_scoped2 cc4_scoped3 (k4_off1 L 0#32) (k4_off1_inb L 0) (k4_off2 L) (k4_off2_inb L) (k4_off5 L) (k4_off5_inb L)
          slab (F := F) L cc4_scoped4 cc4_scoped5 cc4_scoped6 cc4_scoped7 (k4_off1 L 1#32) (k4_off1_inb L 1) (k4_off6 L) (k4_off6_inb L) (k4_off9 L) (k4_off9_inb L)
          slab (F := F) L cc4_scoped8 cc4_scoped9 cc4_scoped10 cc4_scoped11 (k4_off1 L 2#32) (k4_off1_inb L 2) (k4_off10 L) (k4_off10_inb L) (k4_off13 L) (k4_off13_inb L)
          slab (F := F) L cc4_scoped12 cc4_scoped13 cc4_scoped14 cc4_scoped15 (k4_off1 L 3#32) (k4_off1_inb L 3) (k4_off14 L) (k4_off14_inb L) (k4_off17 L) (k4_off17_inb L)) := by
  simp only [cc4__sc_body_eq_skeleton, cc4__sc_body_skel, k4_part1_eq_skeleton, k4_part1_skel, k4_part2_eq_skeleton, k4_part2_skel, slab,
    Prog.lift, Prog.bind_op, Prog.bind_ret, Prog.bind_assoc, Prog.pure_eq_ret]
  rfl

end Prog

/-! ## What one group of lanes leaves -/

/-- Element `n` of a row of 4096. -/
abbrev at1 (n : Fin 4096) : S4096.Idx := Shape.ofLane (d := ![4096]) n

/-- A slab's row for one batch: each reference value less the sorted value its index names. -/
def diff (fi : IVec S4096 32) (fr fx : FVec F S4096 .f32) : FVec F S4096 .f32 :=
  fun m => FloatOps.subf (fr m) (fx (at1 (Fin.ofNat 4096 (fi m).toNat)))

theorem lanes_lt (k : Fin k4_t2_loop.trips) : k.val < 256 := lt_of_lt_of_eq k.isLt (by decide)

/-- The rectangle of group `k`'s lanes. -/
abbrev laneR (k : Fin k4_t2_loop.trips) : Rect S4096 := Rect.unit (s := S4096) (k4_off4 k) S16.size (k4_off4_inb k)

theorem lane_idx (k : Fin k4_t2_loop.trips) (x : S16.Idx) (m : S4096.Idx) (h : (m 0).val = 16 * k.val + (x 0).val) :
    (Rect.unit (s := S4096) (k4_off3 k) S16.size (k4_off3_inb k)).toLoadRect.idx x = m ∧ (laneR k).toLoadRect.idx x = m := by
  constructor <;> funext a <;> obtain rfl := Subsingleton.elim a 0 <;> apply Fin.ext <;> rw [LoadRect.idx_apply, h]
  · have o : k4_off3 k 0 = 16 * k.val := by rw [k4_off3_eq]; rfl
    show k4_off3 k 0 + 1 * (x 0).val = _
    omega
  · have o : k4_off4 k 0 = 16 * k.val := by rw [k4_off4_eq]; rfl
    show k4_off4 k 0 + 1 * (x 0).val = _
    omega

/-- The indices loaded name elements of the row. -/
theorem lane_chk {fi : IVec S4096 32} (hfi : ∀ m, (fi m).toNat < 4096) (k : Fin k4_t2_loop.trips) :
    k4_chk1 ((iS : Memref sig .scVector .vmem S4096 .i32).view.readAt (Elt F) (Rect.unit (s := S4096) (k4_off3 k) S16.size (k4_off3_inb k)).toLoadRect fi) := by
  intro a x
  obtain rfl := Subsingleton.elim a 0
  exact hfi _

/-- Group `k`'s store continues the row of results by sixteen elements. -/
theorem lane_write (k : Fin k4_t2_loop.trips) (fi : IVec S4096 32) (fr fx g : FVec F S4096 .f32) (h)
    (hfi : ∀ m, (fi m).toNat < 4096) (hg : ∀ m : S4096.Idx, (m 0).val < 16 * k.val → g m = diff fi fr fx m)
    (m : S4096.Idx) (hm : (m 0).val < 16 * (k.val + 1)) :
    (oS.access (laneR k)).write (Elt F) g
        (k4_pay1 (loadIdx ((xS.access (.whole S4096)).read (Elt F) fx)
            ![iS.view.readAt (Elt F) (Rect.unit (s := S4096) (k4_off3 k) S16.size (k4_off3_inb k)).toLoadRect fi] h)
          (rS.view.readAt (Elt F) (laneR k).toLoadRect fr)) Finset.univ m = diff fi fr fx m := by
  have off : (laneR k).off 0 = 16 * k.val := by show k4_off4 k 0 = _; rw [k4_off4_eq]; rfl
  by_cases hk : (m 0).val < 16 * k.val
  · rw [← hg m hk]
    exact View.read_writes_cons_miss_of_axis (Val := Elt F) oS.view g ⟨laneR k, _⟩ [] m 0 (16 * k.val) 16 off rfl rfl (.inl hk)
  · let x : S16.Idx := Shape.ofLane (d := ![16]) ⟨(m 0).val - 16 * k.val, by show _ < 16; omega⟩
    have hx : (m 0).val = 16 * k.val + (x 0).val := by show _ = 16 * k.val + ((m 0).val - 16 * k.val); omega
    refine (View.read_writes_cons_hit_of_coords (Val := Elt F) oS.view g (laneR k) _ [] x m fun a => ?_).trans ?_
    · obtain rfl := Subsingleton.elim a 0
      rw [off, hx]; show _ = _ + 1 * _; rw [Nat.one_mul]
    · obtain ⟨e3, e4⟩ := lane_idx k x m hx
      show FloatOps.subf (fr ((laneR k).toLoadRect.idx x)) (fx _) = FloatOps.subf (fr m) (fx _)
      rw [e4]; congr 2
      refine funext (fun a : Fin 1 => ?_)
      obtain rfl := Subsingleton.elim a 0
      apply Fin.ext
      show 0 + 1 * (fi ((Rect.unit (s := S4096) (k4_off3 k) S16.size (k4_off3_inb k)).toLoadRect.idx x)).toNat = (fi m).toNat % 4096
      rw [e3, Nat.mod_eq_of_lt (hfi m), Nat.one_mul, Nat.zero_add]

/-! ## The rows the copies move -/

/-- Row `b` and element `4096 sl + m` of the result: the reference value of slice `sl` at rank `m` less the sorted value its index names. -/
def outOf (fI : IVec S128x4096 32) (fR : FVec F S128x4096 .f32) (fX : FVec F S16x128x4096 .f32) : FVec F S16x524288 .f32 := fun j =>
  let sl : Fin 128 := ⟨(j 1).val / 4096, Nat.div_lt_of_lt_mul (j 1).isLt⟩
  let m : Fin 4096 := Fin.ofNat 4096 (j 1).val
  FloatOps.subf (fR (ix2 sl m)) (fX (ix3 (j 0) sl (Fin.ofNat 4096 (fI (ix2 sl m)).toNat)))

theorem rowI_read {o : Fin 2 → Nat} (h) {sl : Fin 128} (ho : o = ![sl.val, 0]) (f : IVec S128x4096 32) :
    (rowI o h).view.read (Elt F) f = fun m : S4096.Idx => f (ix2 sl (m 0)) := by
  subst ho
  refine funext fun m => congrArg f (funext fun a => Fin.ext ?_)
  show ![sl.val, 0] a + 1 * ((Shape.reshapeEquiv squeezes_S1x4096_S4096.numel_eq m) a).val = _
  rw [show Shape.reshapeEquiv squeezes_S1x4096_S4096.numel_eq m = Fin.cons ⟨0, Nat.one_pos⟩ m from Shape.reshapeEquiv_cons_one _ m]
  match a with
  | 0 => rfl
  | 1 => show 0 + 1 * (m 0).val = (m 0).val; omega

theorem rowR_read {o : Fin 2 → Nat} (h) {sl : Fin 128} (ho : o = ![sl.val, 0]) (f : FVec F S128x4096 .f32) :
    (rowR o h).view.read (Elt F) f = fun m : S4096.Idx => f (ix2 sl (m 0)) := by
  subst ho
  refine funext fun m => congrArg f (funext fun a => Fin.ext ?_)
  show ![sl.val, 0] a + 1 * ((Shape.reshapeEquiv squeezes_S1x4096_S4096.numel_eq m) a).val = _
  rw [show Shape.reshapeEquiv squeezes_S1x4096_S4096.numel_eq m = Fin.cons ⟨0, Nat.one_pos⟩ m from Shape.reshapeEquiv_cons_one _ m]
  match a with
  | 0 => rfl
  | 1 => show 0 + 1 * (m 0).val = (m 0).val; omega

theorem rowX_read {o : Fin 3 → Nat} (h) {b : Fin 16} {sl : Fin 128} (ho : o = ![b.val, sl.val, 0]) (f : FVec F S16x128x4096 .f32) :
    (rowX o h).view.read (Elt F) f = fun m : S4096.Idx => f (ix3 b sl (m 0)) := by
  subst ho
  refine funext fun m => congrArg f (funext fun a => Fin.ext ?_)
  show ![b.val, sl.val, 0] a + 1 * ((Shape.reshapeEquiv squeezes_S1x1x4096_S4096.numel_eq m) a).val = _
  rw [show Shape.reshapeEquiv squeezes_S1x1x4096_S4096.numel_eq m = ix3 (n := 1) (m := 1) 0 0 (m 0) from
    Shape.reshapeEquiv_eq_of_rowMajor _ (by
      show ((Shape.rowMajorPi ![1, 1, 4096] (ix3 (n := 1) (m := 1) 0 0 (m 0)) : Fin _) : Nat) = (Shape.rowMajorPi ![4096] m : Nat)
      simp [Shape.rowMajorPi_succ_val, ix3])]
  match a with
  | 0 => rfl
  | 1 => rfl
  | 2 => show 0 + 1 * (m 0).val = (m 0).val; omega

theorem rowO_emb {o : Fin 2 → Nat} (h) {b : Fin 16} {sl : Fin 128} (ho : o = ![b.val, 4096 * sl.val]) (m : S4096.Idx) :
    ((rowO o h).view.emb m : S16x524288.Idx) = ix2 b ⟨4096 * sl.val + (m 0).val, by have := sl.isLt; have : (m 0).val < 4096 := (m 0).isLt; omega⟩ := by
  subst ho
  refine funext fun a => Fin.ext ?_
  show ![b.val, 4096 * sl.val] a + 1 * ((Shape.reshapeEquiv squeezes_S1x4096_S4096.numel_eq m) a).val = _
  rw [show Shape.reshapeEquiv squeezes_S1x4096_S4096.numel_eq m = Fin.cons ⟨0, Nat.one_pos⟩ m from Shape.reshapeEquiv_cons_one _ m]
  match a with
  | 0 => rfl
  | 1 => show 4096 * sl.val + 1 * (m 0).val = 4096 * sl.val + (m 0).val; omega

/-- One write of a whole view, read at one of its elements. -/
theorem whole_wrote {κ : Kind} {sp : Space} {s : Shape} {e : EltTy} (v : View sig κ sp s e) (f : v.ty.Contents (Elt F)) (w : s.Idx → Elt F e) (m : s.Idx) :
    v.writes (Elt F) f [⟨Rect.whole s, w⟩] (v.emb m) = _root_.cast (congrArg (Elt F) v.elt_eq.symm) (w m) := by
  have h := View.write_emb_of_mem (v := v.slice (Rect.whole s)) f w (Finset.mem_univ m)
  have e : (v.slice (Rect.whole s)).emb m = v.emb m := by
    rw [View.emb_slice]
    exact congrArg v.emb ((Rect.whole s).emb_eq_of_coords m m fun a => by show _ = 0 + 1 * _; omega)
  rw [e] at h
  exact h

/-- A row landed on row `o` of the result is there element for element. -/
theorem rowO_wrote {o : Fin 2 → Nat} (h) (f : FVec F S16x524288 .f32) (w : FVec F S4096 .f32) (m : S4096.Idx) :
    (rowO o h).view.writes (Elt F) f [⟨Rect.whole S4096, w⟩] ((rowO o h).view.emb m) = w m :=
  whole_wrote (rowO o h).view f w m

/-- A row of results, at its place in the result. -/
theorem outOf_row (fI : IVec S128x4096 32) (fR : FVec F S128x4096 .f32) (fX : FVec F S16x128x4096 .f32) {o : Fin 2 → Nat} (h) {b : Fin 16} {sl : Fin 128}
    (ho : o = ![b.val, 4096 * sl.val]) (m : S4096.Idx) :
    outOf fI fR fX ((rowO o h).view.emb m : S16x524288.Idx)
      = diff (fun m => fI (ix2 sl (m 0))) (fun m => fR (ix2 sl (m 0))) (fun m => fX (ix3 b sl (m 0))) m := by
  rw [rowO_emb h ho]
  have hm : (m 0).val < 4096 := (m 0).isLt
  have e1 : (⟨(4096 * sl.val + (m 0).val) / 4096, by have := sl.isLt; omega⟩ : Fin 128) = sl := Fin.ext (by show _ / 4096 = _; omega)
  have e2 : (Fin.ofNat 4096 (4096 * sl.val + (m 0).val) : Fin 4096) = m 0 := Fin.ext (by show _ % 4096 = _; omega)
  show FloatOps.subf (fR (ix2 ⟨(4096 * sl.val + (m 0).val) / 4096, _⟩ (Fin.ofNat 4096 (4096 * sl.val + (m 0).val))))
    (fX (ix3 b ⟨(4096 * sl.val + (m 0).val) / 4096, _⟩ (Fin.ofNat 4096 (fI (ix2 ⟨(4096 * sl.val + (m 0).val) / 4096, _⟩ (Fin.ofNat 4096 (4096 * sl.val + (m 0).val)))).toNat))) = _
  rw [e1, e2]; rfl

/-! ## The run of the lanes -/

section Run

variable (d : Dev nD) (L : grid4.Coords)

/-- The rows before group `k` of lanes: indices, reference values and sorted values as fetched, the results done up to the group. -/
def lanesInv (fi : IVec S4096 32) (fr fx : FVec F S4096 .f32) (k : Nat) (_ : BitVec 32) : sProp 𝕄 :=
  iprop((iS.view.loc (V d (cV L) (jV L)) ↦{fullShare} fi)
    ∗ (rS.view.loc (V d (cV L) (jV L)) ↦{fullShare} fr)
    ∗ (xS.view.loc (V d (cV L) (jV L)) ↦{fullShare} fx)
    ∗ ∃ g : FVec F S4096 .f32, ⌜∀ m : S4096.Idx, (m 0).val < 16 * k → g m = diff fi fr fx m⌝
      ∗ (oS.view.loc (V d (cV L) (jV L)) ↦{fullShare} g))

/-- One group of lanes. -/
theorem lanes_step (fi : IVec S4096 32) (fr fx : FVec F S4096 .f32) (hfi : ∀ m, (fi m).toNat < 4096) (k : Fin k4_t2_loop.trips) (u : BitVec 32) :
    lanesInv d L fi fr fx k.val u
      ⊢ wp frame (wpE (defs₀ (F := F)) 𝒱₀ (V d (cV L) (jV L)) none) Set.univ (lanes L k u) (lanesInv d L fi fr fx (k.val + 1)) := by
  unfold lanesInv lanes
  simp only [Prog.lift, Prog.bind_op, Prog.bind_ret, Prog.pure_eq_ret]
  iintro ⟨Hi, Hr, Hx, %g, %hg, Ho⟩
  iapply (wp_load 𝒱₀ (V d (cV L) (jV L)) none Set.univ (m := iS) (S := Finset.univ) (Finset.subset_univ _)) $$ Hi
  iintro Hi
  rw [wp_assume_of _ _ _ _ (lane_chk hfi k)]
  iapply (SparseCore.wp_vectorLoadIdx 𝒱₀ (V d (cV L) (jV L)) none Set.univ (base := xS) (S := Finset.univ) (q := fullShare) (Finset.subset_univ _)) $$ Hx
  iintro Hx
  iapply (wp_load 𝒱₀ (V d (cV L) (jV L)) none Set.univ (m := rS) (S := Finset.univ) (Finset.subset_univ _)) $$ Hr
  iintro Hr
  iapply (wp_load 𝒱₀ (V d (cV L) (jV L)) none Set.univ (m := oS) (S := Finset.univ) (Finset.subset_univ _)) $$ Ho
  iintro Ho
  iapply (wp_store 𝒱₀ (V d (cV L) (jV L)) none Set.univ (m := oS) (r := laneR k) (Mk := Finset.univ) (S := Finset.univ) (Finset.subset_univ _)) $$ Ho
  iintro Ho
  sl_step
  isplitl [Hi]; · iexact Hi
  isplitl [Hr]; · iexact Hr
  isplitl [Hx]; · iexact Hx
  iexists _
  isplitr
  · ipureintro; exact lane_write k fi fr fx g (lane_chk (F := F) hfi k) hfi hg
  · iexact Ho

variable (fI : IVec S128x4096 32) (fR : FVec F S128x4096 .f32) (fX : FVec F S16x128x4096 .f32) (q : PosShare TreeShare)
  (O : CellTallies nD τ sig (HIx 1)) (W : Waits sig (HIx 1))

/-- The thread's debt, with waits at the index of no hand-off recorded. -/
abbrev owed : sProp 𝕄 := iprop(∃ W', ⌜∀ p ∈ W', p ∈ W ∨ p.2 = none⌝ ∗ owes (V d (cV L) (jV L)) O W')

variable (semI semR semX semO : DmaSems sig S_)
  (o1 : Fin 2 → Nat) (h1 : ∀ a, o1 a + S1x4096.size a ≤ S128x4096.size a)
  (o2 : Fin k4_t1_loop.trips → Fin 3 → Nat) (h2 : ∀ t a, o2 t a + S1x1x4096.size a ≤ S16x128x4096.size a)
  (o5 : Fin k4_t1_loop.trips → Fin 2 → Nat) (h5 : ∀ t a, o5 t a + S1x4096.size a ≤ S16x524288.size a)

omit [FloatOps F] in
/-- A row copied whole into a scratch row. -/
theorem wrote_x (f w : FVec F S4096 .f32) :
    (xS.view.loc (V d (cV L) (jV L)) ↦{fullShare} xS.view.write (Elt F) f w Finset.univ : sProp 𝕄) = (xS.view.loc (V d (cV L) (jV L)) ↦{fullShare} w) :=
  congrArg _ (View.write_whole_univ _ _ _)

omit [FloatOps F] in
theorem wrote_i (f w : IVec S4096 32) :
    (iS.view.loc (V d (cV L) (jV L)) ↦{fullShare} iS.view.write (Elt F) f w Finset.univ : sProp 𝕄) = (iS.view.loc (V d (cV L) (jV L)) ↦{fullShare} w) :=
  congrArg _ (View.write_whole_univ _ _ _)
omit [FloatOps F] in
theorem wrote_r (f w : FVec F S4096 .f32) :
    (rS.view.loc (V d (cV L) (jV L)) ↦{fullShare} rS.view.write (Elt F) f w Finset.univ : sProp 𝕄) = (rS.view.loc (V d (cV L) (jV L)) ↦{fullShare} w) :=
  congrArg _ (View.write_whole_univ _ _ _)

/-- Batch `t`'s row of the result, at contents `f`. -/
abbrev oRow (t : Fin k4_t1_loop.trips) (f : FVec F S16x524288 .f32) : sProp 𝕄 :=
  iprop((rowO (o5 t) (h5 t)).view.loc (V d (cV L) (jV L)) ↦[(rowO (o5 t) (h5 t)).view.set]{fullShare} f)

variable (sl : Fin 128)

/-- The slab's rows of indices and of reference values. -/
abbrev slI : IVec S4096 32 := fun m => fI (ix2 sl (m 0))
abbrev slR : FVec F S4096 .f32 := fun m => fR (ix2 sl (m 0))

/-- What a slab's batches hold between two of them, the rows of the result apart. -/
def atBatch : sProp 𝕄 :=
  iprop(Transfers.MayWaits (V d (cV L) (jV L)) (none : HIx 1) O
      ∗ (iS.view.loc (V d (cV L) (jV L)) ↦{fullShare} slI fI sl)
      ∗ (rS.view.loc (V d (cV L) (jV L)) ↦{fullShare} slR fR sl)
      ∗ (∃ f, xS.view.loc (V d (cV L) (jV L)) ↦{fullShare} f)
      ∗ (∃ f, oS.view.loc (V d (cV L) (jV L)) ↦{fullShare} f)
      ∗ (xsA.view.loc (V d (cV L) (jV L)) ↦{q} fX)
      ∗ semVal (V d (cV L) (jV L), SemLoc.dma semX.sem) 0
      ∗ semVal (V d (cV L) (jV L), SemLoc.dma semO.sem) 0
      ∗ owed d L O W)

theorem batch_step (hfI : ∀ m, (fI m).toNat < 4096) (t : Fin k4_t1_loop.trips) {b : Fin 16}
    (ho2 : o2 t = ![b.val, sl.val, 0]) (ho5 : o5 t = ![b.val, 4096 * sl.val]) (u : BitVec 32) :
    iprop(atBatch d L fI fR fX q O W semX semO sl ∗ ∃ f, oRow d L o5 h5 t f)
    ⊢ wp frame (wpE (defs₀ (F := F)) 𝒱₀ (V d (cV L) (jV L)) none) Set.univ (batch L semX semO o2 h2 o5 h5 t u)
        fun _ => iprop(atBatch d L fI fR fX q O W semX semO sl ∗ oRow d L o5 h5 t (outOf fI fR fX)) := by
  unfold batch atBatch
  iintro ⟨⟨Hmw, Hi, Hr, ⟨%fx, Hx⟩, ⟨%g, Ho⟩, HX, HsX, HsO, %W', %hW', Hw⟩, %f, HO⟩
  sl_exec
  ihave Hx := (Entails.of_eq (wrote_x (F := F) d L fx _)) $$ Hx
  sl_unfold_words
  sl_for (lanesInv d L (slI fI sl) (slR fR sl) ((rowX (o2 t) (h2 t)).view.read (Elt F) fX)) $$ [Hi Hr Hx Ho]
  case region => intro k v; exact lanes_step d L _ _ _ (fun m => hfI _) k v
  · unfold lanesInv
    isplitl [Hi]; · iexact Hi
    isplitl [Hr]; · iexact Hr
    isplitl [Hx]; · iexact Hx
    iexists g; isplitr
    · ipureintro; exact fun m hm => absurd hm (by omega)
    · iexact Ho
  iintro %_ HI
  unfold lanesInv
  icases HI with ⟨Hi, Hr, Hx, %g', %hg', Ho⟩
  sl_exec
  sl_unfold_words
  sl_step
  isplitr [HO]
  · isplitl [Hmw]; · iexact Hmw
    isplitl [Hi]; · iexact Hi
    isplitl [Hr]; · iexact Hr
    isplitl [Hx]; · iexists _; iexact Hx
    isplitl [Ho]; · iexists _; iexact Ho
    isplitl [HX]; · iexact HX
    isplitl [HsX]; · iexact HsX
    isplitl [HsO]; · iexact HsO
    iexists _; isplitr [Hw]; swap; · iexact Hw
    ipureintro
    intro p hp
    rcases Finset.mem_insert.mp hp with hp | hp
    · exact .inr (hp ▸ rfl)
    rcases Finset.mem_insert.mp hp with hp | hp
    · exact .inr (hp ▸ rfl)
    · exact hW' p hp
  · refine Entails.of_eq (pointsTo_congr fun i hi => ?_)
    obtain ⟨m, -, rfl⟩ := Finset.mem_map.mp hi
    refine Eq.trans ?_ (outOf_row fI fR fX (h5 t) ho5 m).symm
    refine (rowO_wrote (h5 t) f g' m).trans ?_
    rw [hg' m (lt_of_lt_of_eq (m 0).isLt (by decide)), rowX_read (h2 t) ho2]

/-- The rows of the result before batch `t`: written up to it. -/
def piece (t : Nat) (u : Fin k4_t1_loop.trips) : sProp 𝕄 :=
  if u.val < t then oRow d L o5 h5 u (outOf fI fR fX) else iprop(∃ f, oRow d L o5 h5 u f)

def slabInv (t : Nat) (_ : BitVec 32) : sProp 𝕄 :=
  iprop(atBatch d L fI fR fX q O W semX semO sl ∗ bigSep Finset.univ (piece d L fI fR fX o5 h5 t))

theorem slab_step (hfI : ∀ m, (fI m).toNat < 4096) (ho2 : ∀ t, o2 t = ![t.val, sl.val, 0]) (ho5 : ∀ t, o5 t = ![t.val, 4096 * sl.val])
    (t : Fin k4_t1_loop.trips) (u : BitVec 32) :
    slabInv d L fI fR fX q O W semX semO o5 h5 sl t.val u
    ⊢ wp frame (wpE (defs₀ (F := F)) 𝒱₀ (V d (cV L) (jV L)) none) Set.univ (batch L semX semO o2 h2 o5 h5 t u)
        (slabInv d L fI fR fX q O W semX semO o5 h5 sl (t.val + 1)) := by
  have ht : t.val < 16 := lt_of_lt_of_eq t.isLt (by decide)
  unfold slabInv
  rw [SparseCore.bigSep_erase' (Finset.mem_univ t), show piece d L fI fR fX o5 h5 t.val t = iprop(∃ f, oRow d L o5 h5 t f) from if_neg (lt_irrefl _)]
  have hpost : iprop((atBatch d L fI fR fX q O W semX semO sl ∗ oRow d L o5 h5 t (outOf fI fR fX))
        ∗ bigSep (Finset.univ.erase t) (piece d L fI fR fX o5 h5 t.val))
      ⊢ iprop(atBatch d L fI fR fX q O W semX semO sl ∗ bigSep Finset.univ (piece d L fI fR fX o5 h5 (t.val + 1)) : sProp 𝕄) := by
    rw [SparseCore.bigSep_erase' (Finset.mem_univ t) (Φ := piece d L fI fR fX o5 h5 (t.val + 1)),
      show piece d L fI fR fX o5 h5 (t.val + 1) t = oRow d L o5 h5 t (outOf fI fR fX) from if_pos (Nat.lt_succ_self _),
      bigSep_congr (s := Finset.univ.erase t) (Φ := piece d L fI fR fX o5 h5 (t.val + 1)) (Ψ := piece d L fI fR fX o5 h5 t.val) fun v hv => by
        have hne : v.val ≠ t.val := fun e => Finset.ne_of_mem_erase hv (Fin.ext e)
        unfold piece
        by_cases h : v.val < t.val
        · rw [if_pos h, if_pos (by omega)]
        · rw [if_neg h, if_neg (by omega)]]
    iintro ⟨⟨HA, HO⟩, HR⟩
    isplitl [HA]; · iexact HA
    isplitl [HO] <;> iassumption
  refine BI.Entails.trans ?_ (wp_mono frame _ _ fun _ => hpost)
  have hpre : iprop(atBatch d L fI fR fX q O W semX semO sl ∗ (∃ f, oRow d L o5 h5 t f) ∗ bigSep (Finset.univ.erase t) (piece d L fI fR fX o5 h5 t.val))
      ⊢ iprop((atBatch d L fI fR fX q O W semX semO sl ∗ ∃ f, oRow d L o5 h5 t f) ∗ bigSep (Finset.univ.erase t) (piece d L fI fR fX o5 h5 t.val) : sProp 𝕄) := by
    iintro ⟨HA, HO, HR⟩
    isplitr [HR]; swap; · iexact HR
    isplitl [HA] <;> iassumption
  refine hpre.trans ?_
  refine BI.Entails.trans ?_ (wp_frame_r (Fr := frame) (wpE := wpE (defs₀ (F := F)) 𝒱₀ (V d (cV L) (jV L)) none) (E := Set.univ))
  exact BI.sep_mono_l (batch_step d L fI fR fX q O W semX semO o2 h2 o5 h5 sl hfI t (b := ⟨t.val, ht⟩) (ho2 t) (ho5 t) u)

/-- What a slab is handed and hands back, the rows of the result apart. -/
def atSlab : sProp 𝕄 :=
  iprop(Transfers.MayWaits (V d (cV L) (jV L)) (none : HIx 1) O
      ∗ (∃ f, iS.view.loc (V d (cV L) (jV L)) ↦{fullShare} f)
      ∗ (∃ f, rS.view.loc (V d (cV L) (jV L)) ↦{fullShare} f)
      ∗ (∃ f, xS.view.loc (V d (cV L) (jV L)) ↦{fullShare} f)
      ∗ (∃ f, oS.view.loc (V d (cV L) (jV L)) ↦{fullShare} f)
      ∗ (iA.view.loc (V d (cV L) (jV L)) ↦{q} fI)
      ∗ (rA.view.loc (V d (cV L) (jV L)) ↦{q} fR)
      ∗ (xsA.view.loc (V d (cV L) (jV L)) ↦{q} fX)
      ∗ owed d L O W)

/-- The four counters a slab's copies use, at zero. -/
def atSems : sProp 𝕄 :=
  iprop(semVal (V d (cV L) (jV L), SemLoc.dma semI.sem) 0 ∗ semVal (V d (cV L) (jV L), SemLoc.dma semR.sem) 0
      ∗ semVal (V d (cV L) (jV L), SemLoc.dma semX.sem) 0 ∗ semVal (V d (cV L) (jV L), SemLoc.dma semO.sem) 0)

theorem slab_run (hfI : ∀ m, (fI m).toNat < 4096) (ho1 : o1 = ![sl.val, 0]) (ho2 : ∀ t, o2 t = ![t.val, sl.val, 0]) (ho5 : ∀ t, o5 t = ![t.val, 4096 * sl.val]) :
    iprop(atSlab d L fI fR fX q O W ∗ atSems d L semI semR semX semO ∗ bigSep Finset.univ fun t => iprop(∃ f, oRow d L o5 h5 t f))
    ⊢ wp frame (wpE (defs₀ (F := F)) 𝒱₀ (V d (cV L) (jV L)) none) Set.univ (slab L semI semR semX semO o1 h1 o2 h2 o5 h5)
        fun _ => iprop(atSlab d L fI fR fX q O W ∗ atSems d L semI semR semX semO ∗ bigSep Finset.univ fun t => oRow d L o5 h5 t (outOf fI fR fX)) := by
  unfold slab atSlab atSems
  iintro ⟨⟨Hmw, ⟨%fi, Hi⟩, ⟨%fr, Hr⟩, Hx, Ho, HI, HR, HX, %W', %hW', Hw⟩, ⟨HsI, HsR, HsX, HsO⟩, HO⟩
  sl_exec
  ihave Hi := (Entails.of_eq (wrote_i (F := F) d L fi _)) $$ Hi
  ihave Hr := (Entails.of_eq (wrote_r (F := F) d L fr _)) $$ Hr
  sl_unfold_words
  ihave Hi := (Entails.of_eq (congrArg (fun w => (iS.view.loc (V d (cV L) (jV L)) ↦{fullShare} w : sProp 𝕄)) (rowI_read h1 ho1 fI))) $$ Hi
  ihave Hr := (Entails.of_eq (congrArg (fun w => (rS.view.loc (V d (cV L) (jV L)) ↦{fullShare} w : sProp 𝕄)) (rowR_read h1 ho1 fR))) $$ Hr
  sl_for (slabInv d L fI fR fX q O W semX semO o5 h5 sl) $$ [Hmw Hi Hr Hx Ho HX HsX HsO HO Hw]
  case region => intro t v; exact slab_step d L fI fR fX q O W semX semO o2 h2 o5 h5 sl hfI ho2 ho5 t v
  · unfold slabInv atBatch
    rw [bigSep_congr (s := Finset.univ) (Φ := piece d L fI fR fX o5 h5 0) (Ψ := fun t => iprop(∃ f, oRow d L o5 h5 t f))
      fun t _ => if_neg (Nat.not_lt_zero _)]
    isplitr [HO]; swap; · iexact HO
    isplitl [Hmw]; · iexact Hmw
    isplitl [Hi]; · iexact Hi
    isplitl [Hr]; · iexact Hr
    isplitl [Hx]; · iexact Hx
    isplitl [Ho]; · iexact Ho
    isplitl [HX]; · iexact HX
    isplitl [HsX]; · iexact HsX
    isplitl [HsO]; · iexact HsO
    iexists _; isplitr [Hw]; swap; · iexact Hw
    ipureintro
    intro p hp
    rcases Finset.mem_insert.mp hp with hp | hp
    · exact .inr (hp ▸ rfl)
    rcases Finset.mem_insert.mp hp with hp | hp
    · exact .inr (hp ▸ rfl)
    · exact hW' p hp
  iintro %_ HB
  unfold slabInv atBatch
  rw [bigSep_congr (s := Finset.univ) (Φ := piece d L fI fR fX o5 h5 (Scf.trips k4_t1_loop.lb k4_t1_loop.ub k4_t1_loop.st))
    (Ψ := fun t => oRow d L o5 h5 t (outOf fI fR fX)) fun t _ => if_pos t.isLt]
  icases HB with ⟨⟨Hmw, Hi, Hr, Hx, Ho, HX, HsX, HsO, Hw⟩, HO⟩
  sl_step
  isplitr [HsI HsR HsX HsO HO]
  · isplitl [Hmw]; · iexact Hmw
    isplitl [Hi]; · iexists _; iexact Hi
    isplitl [Hr]; · iexists _; iexact Hr
    isplitl [Hx]; · iexact Hx
    isplitl [Ho]; · iexact Ho
    isplitl [HI]; · iexact HI
    isplitl [HR]; · iexact HR
    isplitl [HX]; · iexact HX
    iexact Hw
  · isplitr [HO]; swap; · iexact HO
    isplitl [HsI]; · iexact HsI
    isplitl [HsR]; · iexact HsR
    isplitl [HsX]; · iexact HsX
    iexact HsO

end Run

end Cert.KernelIdeal.Work

end
-- ==== Proof.TileBodyKernelIdeal.lean ====
/- One tile of the SparseCore call: four slabs, each a row of indices and a row of reference values fetched once, and
   sixteen rows of sorted values, gathered by the indices, subtracted and written out. -/
module

public import proofs.«01_k».proof.Proof.TileKernelIdeal

@[expose] public section

noncomputable section

namespace Cert.KernelIdeal.Work

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The parts of the result -/

/-- Slab `sl`'s columns of the result. -/
def slabSet (sl : Fin 128) : Finset S16x524288.Idx := Finset.univ.filter fun j => (j 1).val / 4096 = sl.val

/-- Slab `s` of tile `L`. -/
def slabOf (L : grid4.Coords) (s : Fin 4) : Fin 128 :=
  ⟨8 * (L 1).val + 4 * (L 0).val + s.val, by
    have h1 : (L 1).val < 16 := (L 1).isLt
    have h0 : (L 0).val < 2 := (L 0).isLt
    omega⟩

/-- Tile `L`'s columns of the result. -/
def tileSet (L : grid4.Coords) : Finset S16x524288.Idx := Finset.univ.biUnion fun s : Fin 4 => slabSet (slabOf L s)

theorem slabSet_disjoint {a b : Fin 128} (h : a ≠ b) : Disjoint (slabSet a) (slabSet b) :=
  Finset.disjoint_left.mpr fun j ha hb =>
    h (Fin.ext ((Finset.mem_filter.mp ha).2.symm.trans (Finset.mem_filter.mp hb).2))

theorem slabOf_inj (L : grid4.Coords) {s t : Fin 4} (h : s ≠ t) : slabOf L s ≠ slabOf L t := fun e => h (Fin.ext (by
  have e := congrArg Fin.val e
  simp only [slabOf] at e
  omega))

theorem mem_rowO {o : Fin 2 → Nat} (h) {b : Fin 16} {sl : Fin 128} (ho : o = ![b.val, 4096 * sl.val]) (j : S16x524288.Idx) :
    j ∈ ((rowO o h).view.set : Finset S16x524288.Idx) ↔ (j 0).val = b.val ∧ (j 1).val / 4096 = sl.val := by
  constructor
  · intro hj
    obtain ⟨m, -, rfl⟩ := Finset.mem_map.mp hj
    have hm : (m 0).val < 4096 := (m 0).isLt
    rw [rowO_emb h ho]
    exact ⟨rfl, by show (4096 * sl.val + (m 0).val) / 4096 = _; omega⟩
  · rintro ⟨h0, h1⟩
    refine Finset.mem_map.mpr ⟨at1 (Fin.ofNat 4096 (j 1).val), Finset.mem_univ _, ?_⟩
    refine (rowO_emb h ho _).trans (funext fun a => Fin.ext ?_)
    match a with
    | 0 => exact h0.symm
    | 1 =>
      show 4096 * sl.val + (j 1).val % 4096 = (j 1).val
      omega

/-- Two steps of a program: what the first leaves aside is kept for later. -/
theorem wp_seq {thr : Thread nD τ} {p : Prog (TpuEff nD τ sig (Elt F) Λ₀ thr.2) PUnit} {k : PUnit → Prog (TpuEff nD τ sig (Elt F) Λ₀ thr.2) PUnit} {A X X' D R : sProp 𝕄} {Q : PUnit → sProp 𝕄}
    (hp : iprop(A ∗ X) ⊢ wp frame (wpE (defs₀ (F := F)) 𝒱₀ thr none) Set.univ p fun _ => iprop(A ∗ X'))
    (hk : ∀ u, iprop(A ∗ (X' ∗ D) ∗ R) ⊢ wp frame (wpE (defs₀ (F := F)) 𝒱₀ thr none) Set.univ (k u) Q) :
    iprop(A ∗ D ∗ X ∗ R) ⊢ wp frame (wpE (defs₀ (F := F)) 𝒱₀ thr none) Set.univ (p >>= k) Q := by
  have h1 : iprop(A ∗ D ∗ X ∗ R) ⊢ (iprop((A ∗ X) ∗ (D ∗ R)) : sProp 𝕄) := by
    iintro ⟨HA, HD, HX, HR⟩
    isplitl [HA HX]
    · isplitl [HA] <;> iassumption
    · isplitl [HD] <;> iassumption
  have h2 : iprop((A ∗ X') ∗ (D ∗ R)) ⊢ (iprop(A ∗ (X' ∗ D) ∗ R) : sProp 𝕄) := by
    iintro ⟨⟨HA, HX⟩, HD, HR⟩
    isplitl [HA]; · iexact HA
    isplitr [HR]; swap; · iexact HR
    isplitl [HX] <;> iassumption
  rw [wp_bind]
  exact (h1.trans (BI.sep_mono_l hp)).trans ((wp_frame_r (Fr := frame) (wpE := wpE (defs₀ (F := F)) 𝒱₀ thr none) (E := Set.univ)).trans
    (wp_mono frame _ _ fun u => h2.trans (hk u)))

/-- The last step. -/
theorem wp_last {thr : Thread nD τ} {p : Prog (TpuEff nD τ sig (Elt F) Λ₀ thr.2) PUnit} {A X X' D : sProp 𝕄} {Q : PUnit → sProp 𝕄}
    (hp : iprop(A ∗ X) ⊢ wp frame (wpE (defs₀ (F := F)) 𝒱₀ thr none) Set.univ p fun _ => iprop(A ∗ X'))
    (hq : ∀ u, iprop(A ∗ X' ∗ D) ⊢ Q u) :
    iprop(A ∗ D ∗ X) ⊢ wp frame (wpE (defs₀ (F := F)) 𝒱₀ thr none) Set.univ p Q := by
  have h1 : iprop(A ∗ D ∗ X) ⊢ (iprop((A ∗ X) ∗ D) : sProp 𝕄) := by
    iintro ⟨HA, HD, HX⟩
    isplitr [HD]; swap; · iexact HD
    isplitl [HA] <;> iassumption
  have h2 : iprop((A ∗ X') ∗ D) ⊢ (iprop(A ∗ X' ∗ D) : sProp 𝕄) := by
    iintro ⟨⟨HA, HX⟩, HD⟩
    isplitl [HA]; · iexact HA
    isplitl [HX] <;> iassumption
  exact (h1.trans (BI.sep_mono_l hp)).trans ((wp_frame_r (Fr := frame) (wpE := wpE (defs₀ (F := F)) 𝒱₀ thr none) (E := Set.univ)).trans
    (wp_mono frame _ _ fun u => h2.trans (hq u)))

omit [FloatOps F] in
theorem sep4 (A B C D E : sProp 𝕄) : iprop(A ∗ B ∗ C ∗ D ∗ E) = (iprop((A ∗ B ∗ C ∗ D) ∗ E) : sProp 𝕄) := by
  have h1 : iprop(A ∗ B ∗ C ∗ D ∗ E) ⊢ (iprop((A ∗ B ∗ C ∗ D) ∗ E) : sProp 𝕄) := by
    iintro ⟨H1, H2, H3, H4, H5⟩
    isplitr [H5]; swap; · iexact H5
    isplitl [H1]; · iexact H1
    isplitl [H2]; · iexact H2
    isplitl [H3] <;> iassumption
  have h2 : iprop((A ∗ B ∗ C ∗ D) ∗ E) ⊢ (iprop(A ∗ B ∗ C ∗ D ∗ E) : sProp 𝕄) := by
    iintro ⟨⟨H1, H2, H3, H4⟩, H5⟩
    isplitl [H1]; · iexact H1
    isplitl [H2]; · iexact H2
    isplitl [H3]; · iexact H3
    isplitl [H4] <;> iassumption
  exact Entails.antisymm h1 h2

omit [FloatOps F] in
/-- Four members of a family, beside the rest of it. -/
theorem take4 {I : Type} [DecidableEq I] {s : Finset I} {a b c d : I} (ha : a ∈ s) (hb : b ∈ s) (hc : c ∈ s) (hd : d ∈ s)
    (hab : b ≠ a) (hac : c ≠ a) (had : d ≠ a) (hbc : c ≠ b) (hbd : d ≠ b) (hcd : d ≠ c) (Φ : I → sProp 𝕄) :
    bigSep s Φ = iprop((Φ a ∗ Φ b ∗ Φ c ∗ Φ d) ∗ bigSep ((((s.erase a).erase b).erase c).erase d) Φ) := by
  rw [SparseCore.bigSep_erase' ha, SparseCore.bigSep_erase' (Finset.mem_erase.mpr ⟨hab, hb⟩),
    SparseCore.bigSep_erase' (Finset.mem_erase.mpr ⟨hbc, Finset.mem_erase.mpr ⟨hac, hc⟩⟩),
    SparseCore.bigSep_erase' (Finset.mem_erase.mpr ⟨hcd, Finset.mem_erase.mpr ⟨hbd, Finset.mem_erase.mpr ⟨had, hd⟩⟩⟩)]
  exact sep4 _ _ _ _ _

omit [FloatOps F] in
/-- The same, with the rest known by what it still holds. -/
theorem take4' {I : Type} [DecidableEq I] {s : Finset I} {a b c d : I} (ha : a ∈ s) (hb : b ∈ s) (hc : c ∈ s) (hd : d ∈ s)
    (hab : b ≠ a) (hac : c ≠ a) (had : d ≠ a) (hbc : c ≠ b) (hbd : d ≠ b) (hcd : d ≠ c) (Φ : I → sProp 𝕄) :
    ∃ s' : Finset I, bigSep s Φ = iprop((Φ a ∗ Φ b ∗ Φ c ∗ Φ d) ∗ bigSep s' Φ) ∧ ∀ x ∈ s, x ≠ a → x ≠ b → x ≠ c → x ≠ d → x ∈ s' :=
  ⟨_, take4 ha hb hc hd hab hac had hbc hbd hcd Φ, fun _ h h1 h2 h3 h4 => by simp only [Finset.mem_erase]; exact ⟨h4, h3, h2, h1, h⟩⟩

section Run

variable (d : Dev nD) (L : grid4.Coords)
variable (fI : IVec S128x4096 32) (fR : FVec F S128x4096 .f32) (fX : FVec F S16x128x4096 .f32) (q : PosShare TreeShare)
variable (O : CellTallies nD τ sig (HIx 1)) (W : Waits sig (HIx 1))

omit [FloatOps F] in
/-- A slab's columns are its sixteen rows. -/
theorem slab_rows {o5 : Fin k4_t1_loop.trips → Fin 2 → Nat} (h5) {sl : Fin 128} (ho5 : ∀ t, o5 t = ![t.val, 4096 * sl.val]) (f : FVec F S16x524288 .f32) :
    (oA.view.loc (V d (cV L) (jV L)) ↦[slabSet sl]{fullShare} f : sProp 𝕄) = bigSep Finset.univ fun t => oRow d L o5 h5 t f := by
  have hlt : ∀ t : Fin k4_t1_loop.trips, t.val < 16 := fun t => lt_of_lt_of_eq t.isLt (by decide)
  have hmem := fun (t : Fin k4_t1_loop.trips) j => mem_rowO (h5 t) (b := ⟨t.val, hlt t⟩) (sl := sl) (ho5 t) j
  have hs : slabSet sl = Finset.univ.biUnion fun t : Fin k4_t1_loop.trips => ((rowO (o5 t) (h5 t)).view.set : Finset S16x524288.Idx) := by
    ext j
    rw [Finset.mem_biUnion]
    constructor
    · intro hj
      exact ⟨⟨(j 0).val, lt_of_lt_of_eq (j 0).isLt (by decide)⟩, Finset.mem_univ _, (hmem _ j).mpr ⟨rfl, (Finset.mem_filter.mp hj).2⟩⟩
    · rintro ⟨t, -, ht⟩
      exact Finset.mem_filter.mpr ⟨Finset.mem_univ _, ((hmem t j).mp ht).2⟩
  rw [hs]
  exact pointsTo_biUnion (ℓ := oA.view.loc (V d (cV L) (jV L))) Finset.univ _ fun t _ t' _ hne =>
    Finset.disjoint_left.mpr fun j h h' => hne (Fin.ext (((hmem t j).mp h).1.symm.trans ((hmem t' j).mp h').1))

theorem slab_run' (semI semR semX semO : DmaSems sig S_) (o1 : Fin 2 → Nat) (h1) (o2 : Fin k4_t1_loop.trips → Fin 3 → Nat) (h2)
    (o5 : Fin k4_t1_loop.trips → Fin 2 → Nat) (h5) (sl : Fin 128)
    (hfI : ∀ m, (fI m).toNat < 4096) (ho1 : o1 = ![sl.val, 0]) (ho2 : ∀ t, o2 t = ![t.val, sl.val, 0]) (ho5 : ∀ t, o5 t = ![t.val, 4096 * sl.val])
    (f : FVec F S16x524288 .f32) :
    iprop(atSlab d L fI fR fX q O W ∗ atSems d L semI semR semX semO ∗ (oA.view.loc (V d (cV L) (jV L)) ↦[slabSet sl]{fullShare} f))
    ⊢ wp frame (wpE (defs₀ (F := F)) 𝒱₀ (V d (cV L) (jV L)) none) Set.univ (slab L semI semR semX semO o1 h1 o2 h2 o5 h5)
        fun _ => iprop(atSlab d L fI fR fX q O W ∗ atSems d L semI semR semX semO
          ∗ (oA.view.loc (V d (cV L) (jV L)) ↦[slabSet sl]{fullShare} outOf fI fR fX)) := by
  rw [slab_rows d L h5 ho5 f, slab_rows d L h5 ho5 (outOf fI fR fX)]
  have hf : ∀ t, iprop(oRow d L o5 h5 t f) ⊢ (iprop(∃ f, oRow d L o5 h5 t f) : sProp 𝕄) := fun t => by
    iintro H; iexists f; iexact H
  refine BI.Entails.trans (BI.sep_mono_r (BI.sep_mono_r (bigSep_mono fun t _ => hf t)))
    (slab_run d L fI fR fX q O W semI semR semX semO o1 h1 o2 h2 o5 h5 sl hfI ho1 ho2 ho5)

omit [FloatOps F] in
/-- The tile's sixteen counters are among its own. -/
theorem sems_V : ∃ R : sProp 𝕄, (ownSems0 (V d (cV L) (jV L)) : sProp 𝕄)
    = iprop(atSems d L cc4_scoped0 cc4_scoped1 cc4_scoped2 cc4_scoped3 ∗ atSems d L cc4_scoped4 cc4_scoped5 cc4_scoped6 cc4_scoped7
        ∗ atSems d L cc4_scoped8 cc4_scoped9 cc4_scoped10 cc4_scoped11 ∗ atSems d L cc4_scoped12 cc4_scoped13 cc4_scoped14 cc4_scoped15 ∗ R) := by
  have hm : ∀ s : DmaSems sig S_, (SemLoc.dma s.sem : SemLoc sig).isScoped .scVector = true →
      ((V d (cV L) (jV L), SemLoc.dma s.sem) : GSem nD τ sig) ∈ ownCells (V d (cV L) (jV L)) := fun s h => mem_ownCells.mpr ⟨rfl, h⟩
  have hne : ∀ s t : DmaSems sig S_, s.sem ≠ t.sem →
      ((V d (cV L) (jV L), SemLoc.dma s.sem) : GSem nD τ sig) ≠ (V d (cV L) (jV L), SemLoc.dma t.sem) := fun s t h e =>
    h (SemLoc.dma.inj (Prod.mk.inj e).2)
  unfold SparseCore.Cfg.ownSems0
  obtain ⟨s1, e1, h1⟩ := take4' (F := F) (hm cc4_scoped0 (by decide)) (hm cc4_scoped1 (by decide)) (hm cc4_scoped2 (by decide)) (hm cc4_scoped3 (by decide))
    (hne _ _ (by decide)) (hne _ _ (by decide)) (hne _ _ (by decide)) (hne _ _ (by decide)) (hne _ _ (by decide)) (hne _ _ (by decide)) (fun g => semVal g 0)
  have hm1 : ∀ s : DmaSems sig S_, (SemLoc.dma s.sem : SemLoc sig).isScoped .scVector = true → s.sem ≠ cc4_scoped0.sem → s.sem ≠ cc4_scoped1.sem → s.sem ≠ cc4_scoped2.sem → s.sem ≠ cc4_scoped3.sem →
      ((V d (cV L) (jV L), SemLoc.dma s.sem) : GSem nD τ sig) ∈ s1 := fun s h a b c e => h1 _ (hm s h) (hne _ _ a) (hne _ _ b) (hne _ _ c) (hne _ _ e)
  obtain ⟨s2, e2, h2⟩ := take4' (F := F) (hm1 cc4_scoped4 (by decide) (by decide) (by decide) (by decide) (by decide)) (hm1 cc4_scoped5 (by decide) (by decide) (by decide) (by decide) (by decide))
    (hm1 cc4_scoped6 (by decide) (by decide) (by decide) (by decide) (by decide)) (hm1 cc4_scoped7 (by decide) (by decide) (by decide) (by decide) (by decide))
    (hne _ _ (by decide)) (hne _ _ (by decide)) (hne _ _ (by decide)) (hne _ _ (by decide)) (hne _ _ (by decide)) (hne _ _ (by decide)) (fun g => semVal g 0)
  have hm2 : ∀ s : DmaSems sig S_, (SemLoc.dma s.sem : SemLoc sig).isScoped .scVector = true →
      (s.sem ≠ cc4_scoped0.sem ∧ s.sem ≠ cc4_scoped1.sem ∧ s.sem ≠ cc4_scoped2.sem ∧ s.sem ≠ cc4_scoped3.sem) →
      (s.sem ≠ cc4_scoped4.sem ∧ s.sem ≠ cc4_scoped5.sem ∧ s.sem ≠ cc4_scoped6.sem ∧ s.sem ≠ cc4_scoped7.sem) →
      ((V d (cV L) (jV L), SemLoc.dma s.sem) : GSem nD τ sig) ∈ s2 := fun s h a b =>
    h2 _ (hm1 s h a.1 a.2.1 a.2.2.1 a.2.2.2) (hne _ _ b.1) (hne _ _ b.2.1) (hne _ _ b.2.2.1) (hne _ _ b.2.2.2)
  obtain ⟨s3, e3, h3⟩ := take4' (F := F) (hm2 cc4_scoped8 (by decide) (by decide) (by decide)) (hm2 cc4_scoped9 (by decide) (by decide) (by decide))
    (hm2 cc4_scoped10 (by decide) (by decide) (by decide)) (hm2 cc4_scoped11 (by decide) (by decide) (by decide))
    (hne _ _ (by decide)) (hne _ _ (by decide)) (hne _ _ (by decide)) (hne _ _ (by decide)) (hne _ _ (by decide)) (hne _ _ (by decide)) (fun g => semVal g 0)
  have hm3 : ∀ s : DmaSems sig S_, (SemLoc.dma s.sem : SemLoc sig).isScoped .scVector = true →
      (s.sem ≠ cc4_scoped0.sem ∧ s.sem ≠ cc4_scoped1.sem ∧ s.sem ≠ cc4_scoped2.sem ∧ s.sem ≠ cc4_scoped3.sem) →
      (s.sem ≠ cc4_scoped4.sem ∧ s.sem ≠ cc4_scoped5.sem ∧ s.sem ≠ cc4_scoped6.sem ∧ s.sem ≠ cc4_scoped7.sem) →
      (s.sem ≠ cc4_scoped8.sem ∧ s.sem ≠ cc4_scoped9.sem ∧ s.sem ≠ cc4_scoped10.sem ∧ s.sem ≠ cc4_scoped11.sem) →
      ((V d (cV L) (jV L), SemLoc.dma s.sem) : GSem nD τ sig) ∈ s3 := fun s h a b c =>
    h3 _ (hm2 s h a b) (hne _ _ c.1) (hne _ _ c.2.1) (hne _ _ c.2.2.1) (hne _ _ c.2.2.2)
  obtain ⟨s4, e4, -⟩ := take4' (F := F) (hm3 cc4_scoped12 (by decide) (by decide) (by decide) (by decide)) (hm3 cc4_scoped13 (by decide) (by decide) (by decide) (by decide))
    (hm3 cc4_scoped14 (by decide) (by decide) (by decide) (by decide)) (hm3 cc4_scoped15 (by decide) (by decide) (by decide) (by decide))
    (hne _ _ (by decide)) (hne _ _ (by decide)) (hne _ _ (by decide)) (hne _ _ (by decide)) (hne _ _ (by decide)) (hne _ _ (by decide)) (fun g => semVal g 0)
  exact ⟨_, by rw [e1, e2, e3, e4]; rfl⟩

omit [FloatOps F] in
/-- The tile's four scratch rows are among its own buffers. -/
theorem bufs_V : ∃ R : sProp 𝕄, (ownBufs (V d (cV L) (jV L)) : sProp 𝕄)
    = iprop(((∃ f, iS.view.loc (V d (cV L) (jV L)) ↦{fullShare} f) ∗ (∃ f, rS.view.loc (V d (cV L) (jV L)) ↦{fullShare} f)
        ∗ (∃ f, xS.view.loc (V d (cV L) (jV L)) ↦{fullShare} f) ∗ (∃ f, oS.view.loc (V d (cV L) (jV L)) ↦{fullShare} f)) ∗ R) := by
  have hm : ∀ r : Ref sig .scVector, ((Proc.scVector (cV L) (jV L)).devRef r : DevRef τ sig).owner = .proc (.scVector (cV L) (jV L)) →
      (Proc.scVector (cV L) (jV L)).devRef r ∈ ownRefs (τ := τ) (sig := sig) (.scVector (cV L) (jV L)) :=
    fun r h => SparseCore.Cfg.mem_ownRefs_of_owner (p := Proc.scVector (cV L) (jV L)) h
  have hne : ∀ a b : Ref sig .scVector, a ≠ b → ((Proc.scVector (cV L) (jV L)).devRef a : DevRef τ sig) ≠ (Proc.scVector (cV L) (jV L)).devRef b :=
    fun a b h e => h (Proc.devRef_injective _ e)
  unfold SparseCore.Cfg.ownBufs
  obtain ⟨s1, e1, -⟩ := take4' (F := F) (hm cc4_scratch0 rfl) (hm cc4_scratch1 rfl) (hm cc4_scratch2 rfl) (hm cc4_scratch3 rfl)
    (hne _ _ (by decide)) (hne _ _ (by decide)) (hne _ _ (by decide)) (hne _ _ (by decide)) (hne _ _ (by decide)) (hne _ _ (by decide))
    (fun b => iprop(∃ f, ((d, b) : Loc nD τ sig) ↦{fullShare} f))
  exact ⟨_, e1⟩

/-- The tables a tile reads, at a share of each. -/
def tables : sProp 𝕄 :=
  iprop((iA.view.loc (V d (cV L) (jV L)) ↦{q} fI) ∗ (rA.view.loc (V d (cV L) (jV L)) ↦{q} fR) ∗ (xsA.view.loc (V d (cV L) (jV L)) ↦{q} fX))

omit [FloatOps F] in
theorem tile_split (f : FVec F S16x524288 .f32) :
    (oA.view.loc (V d (cV L) (jV L)) ↦[tileSet L]{fullShare} f : sProp 𝕄)
      = iprop((oA.view.loc (V d (cV L) (jV L)) ↦[slabSet (slabOf L 0)]{fullShare} f) ∗ (oA.view.loc (V d (cV L) (jV L)) ↦[slabSet (slabOf L 1)]{fullShare} f)
        ∗ (oA.view.loc (V d (cV L) (jV L)) ↦[slabSet (slabOf L 2)]{fullShare} f) ∗ (oA.view.loc (V d (cV L) (jV L)) ↦[slabSet (slabOf L 3)]{fullShare} f)) := by
  have h := pointsTo_biUnion (Val := Elt F) (Ix := HIx 1) (Lvl := ℕ) (Name := ℕ) (U := UU) (ℓ := oA.view.loc (V d (cV L) (jV L))) (q := fullShare) (f := f) (Finset.univ : Finset (Fin 4)) (fun s => slabSet (slabOf L s))
    fun s _ t _ hne => slabSet_disjoint (slabOf_inj L hne)
  refine h.trans ?_
  rw [take4 (F := F) (Finset.mem_univ (0 : Fin 4)) (Finset.mem_univ 1) (Finset.mem_univ 2) (Finset.mem_univ 3) (by decide) (by decide) (by decide) (by decide) (by decide) (by decide),
    show ((((Finset.univ.erase (0 : Fin 4)).erase 1).erase 2).erase 3) = ∅ from by decide, bigSep_empty]
  refine Eq.trans (equiv_iff.mp sep_emp) rfl

theorem tile_body (hO : ∀ g, O g none = 0) (hfI : ∀ m, (fI m).toNat < 4096) (f : FVec F S16x524288 .f32) :
    iprop(levAts (K (F := F)).L (K (F := F)).lev ∗ (tables d L fI fR fX q ∗ (oA.view.loc (V d (cV L) (jV L)) ↦[tileSet L]{fullShare} f))
      ∗ scopedBufs (V d (cV L) (jV L)) ∗ scopedSems0 (V d (cV L) (jV L)) ∗ owes (V d (cV L) (jV L)) O W)
    ⊢ wp frame (wpE (defs₀ (F := F)) 𝒱₀ (V d (cV L) (jV L)) none) Set.univ
        (cc4__sc_body (F := F) L xsA (Memref.isWhole_whole _) rA (Memref.isWhole_whole _) iA (Memref.isWhole_whole _) oA (Memref.isWhole_whole _)
          iS (Memref.isWhole_whole _) rS (Memref.isWhole_whole _) xS (Memref.isWhole_whole _) oS (Memref.isWhole_whole _)
          cc4_scoped0 cc4_scoped1 cc4_scoped2 cc4_scoped3 cc4_scoped4 cc4_scoped5 cc4_scoped6 cc4_scoped7
          cc4_scoped8 cc4_scoped9 cc4_scoped10 cc4_scoped11 cc4_scoped12 cc4_scoped13 cc4_scoped14 cc4_scoped15)
        fun _ => iprop((tables d L fI fR fX q ∗ (oA.view.loc (V d (cV L) (jV L)) ↦[tileSet L]{fullShare} outOf fI fR fX))
          ∗ scopedBufs (V d (cV L) (jV L)) ∗ scopedSems0 (V d (cV L) (jV L))
          ∗ ∃ W', ⌜∀ p ∈ W', p ∈ W ∨ p.2 = none⌝ ∗ owes (V d (cV L) (jV L)) O W') := by
  obtain ⟨RS, hRS⟩ := sems_V (F := F) d L
  obtain ⟨RB, hRB⟩ := bufs_V (F := F) d L
  rw [body_eq, (K (F := F)).scopedBufs_V facts d (cV L) (jV L), SparseCore.Cfg.scopedSems0_V (Val := Elt F) d (cV L) (jV L), hRS, hRB, tile_split, tile_split]
  have hpre : iprop(levAts (K (F := F)).L (K (F := F)).lev
      ∗ (tables d L fI fR fX q ∗ (oA.view.loc (V d (cV L) (jV L)) ↦[slabSet (slabOf L 0)]{fullShare} f) ∗ (oA.view.loc (V d (cV L) (jV L)) ↦[slabSet (slabOf L 1)]{fullShare} f)
        ∗ (oA.view.loc (V d (cV L) (jV L)) ↦[slabSet (slabOf L 2)]{fullShare} f) ∗ (oA.view.loc (V d (cV L) (jV L)) ↦[slabSet (slabOf L 3)]{fullShare} f))
      ∗ (((∃ f, iS.view.loc (V d (cV L) (jV L)) ↦{fullShare} f) ∗ (∃ f, rS.view.loc (V d (cV L) (jV L)) ↦{fullShare} f)
        ∗ (∃ f, xS.view.loc (V d (cV L) (jV L)) ↦{fullShare} f) ∗ (∃ f, oS.view.loc (V d (cV L) (jV L)) ↦{fullShare} f)) ∗ RB)
      ∗ (atSems d L cc4_scoped0 cc4_scoped1 cc4_scoped2 cc4_scoped3 ∗ atSems d L cc4_scoped4 cc4_scoped5 cc4_scoped6 cc4_scoped7
        ∗ atSems d L cc4_scoped8 cc4_scoped9 cc4_scoped10 cc4_scoped11 ∗ atSems d L cc4_scoped12 cc4_scoped13 cc4_scoped14 cc4_scoped15 ∗ RS)
      ∗ owes (V d (cV L) (jV L)) O W)
      ⊢ (iprop(atSlab d L fI fR fX q O W ∗ (RS ∗ RB)
        ∗ (atSems d L cc4_scoped0 cc4_scoped1 cc4_scoped2 cc4_scoped3 ∗ (oA.view.loc (V d (cV L) (jV L)) ↦[slabSet (slabOf L 0)]{fullShare} f))
        ∗ (atSems d L cc4_scoped4 cc4_scoped5 cc4_scoped6 cc4_scoped7 ∗ (oA.view.loc (V d (cV L) (jV L)) ↦[slabSet (slabOf L 1)]{fullShare} f))
        ∗ (atSems d L cc4_scoped8 cc4_scoped9 cc4_scoped10 cc4_scoped11 ∗ (oA.view.loc (V d (cV L) (jV L)) ↦[slabSet (slabOf L 2)]{fullShare} f))
        ∗ (atSems d L cc4_scoped12 cc4_scoped13 cc4_scoped14 cc4_scoped15 ∗ (oA.view.loc (V d (cV L) (jV L)) ↦[slabSet (slabOf L 3)]{fullShare} f))) : sProp 𝕄) := by
    unfold atSlab tables
    iintro ⟨#Hlv, ⟨⟨HI, HR, HX⟩, H0, H1, H2, H3⟩, ⟨⟨Hi, Hr, Hx, Ho⟩, HB⟩, ⟨S0, S1, S2, S3, HS⟩, HO⟩
    ihave Hmw := ((K (F := F)).mayWaits_none (thr := V d (cV L) (jV L)) hO) $$ Hlv
    isplitl [Hmw HI HR HX Hi Hr Hx Ho HO]
    · isplitl [Hmw]; · iexact Hmw
      isplitl [Hi]; · iexact Hi
      isplitl [Hr]; · iexact Hr
      isplitl [Hx]; · iexact Hx
      isplitl [Ho]; · iexact Ho
      isplitl [HI]; · iexact HI
      isplitl [HR]; · iexact HR
      isplitl [HX]; · iexact HX
      iexists W; isplitr [HO]; swap; · iexact HO
      ipureintro; exact fun p hp => .inl hp
    isplitl [HS HB]; · isplitl [HS] <;> iassumption
    isplitl [S0 H0]; · isplitl [S0] <;> iassumption
    isplitl [S1 H1]; · isplitl [S1] <;> iassumption
    isplitl [S2 H2]; · isplitl [S2] <;> iassumption
    isplitl [S3] <;> iassumption
  refine hpre.trans (wp_seq (slab_run' d L fI fR fX q O W cc4_scoped0 cc4_scoped1 cc4_scoped2 cc4_scoped3 (k4_off1 L 0#32) (k4_off1_inb L 0) (k4_off2 L) (k4_off2_inb L) (k4_off5 L) (k4_off5_inb L)
      (slabOf L 0) hfI ?_ ?_ ?_ f) fun _ =>
    wp_seq (slab_run' d L fI fR fX q O W cc4_scoped4 cc4_scoped5 cc4_scoped6 cc4_scoped7 (k4_off1 L 1#32) (k4_off1_inb L 1) (k4_off6 L) (k4_off6_inb L) (k4_off9 L) (k4_off9_inb L)
      (slabOf L 1) hfI ?_ ?_ ?_ f) fun _ =>
    wp_seq (slab_run' d L fI fR fX q O W cc4_scoped8 cc4_scoped9 cc4_scoped10 cc4_scoped11 (k4_off1 L 2#32) (k4_off1_inb L 2) (k4_off10 L) (k4_off10_inb L) (k4_off13 L) (k4_off13_inb L)
      (slabOf L 2) hfI ?_ ?_ ?_ f) fun _ =>
    wp_last (slab_run' d L fI fR fX q O W cc4_scoped12 cc4_scoped13 cc4_scoped14 cc4_scoped15 (k4_off1 L 3#32) (k4_off1_inb L 3) (k4_off14 L) (k4_off14_inb L) (k4_off17 L) (k4_off17_inb L)
      (slabOf L 3) hfI ?_ ?_ ?_ f) fun _ => ?post)
  case post =>
    unfold atSlab tables owed
    iintro ⟨⟨-, Hi, Hr, Hx, Ho, HI, HR, HX, Hw⟩, ⟨S3, H3⟩, ⟨S2, H2⟩, ⟨S1, H1⟩, ⟨S0, H0⟩, HS, HB⟩
    isplitl [HI HR HX H0 H1 H2 H3]
    · isplitl [HI HR HX]
      · isplitl [HI]; · iexact HI
        isplitl [HR] <;> iassumption
      · isplitl [H0]; · iexact H0
        isplitl [H1]; · iexact H1
        isplitl [H2] <;> iassumption
    isplitl [Hi Hr Hx Ho HB]
    · isplitr [HB]; swap; · iexact HB
      isplitl [Hi]; · iexact Hi
      isplitl [Hr]; · iexact Hr
      isplitl [Hx] <;> iassumption
    isplitr [Hw]; swap; · iexact Hw
    isplitl [S0]; · iexact S0
    isplitl [S1]; · iexact S1
    isplitl [S2]; · iexact S2
    isplitl [S3] <;> iassumption
  · exact (k4_off1_eq L 0).trans (congrArg (fun n : Nat => ![n, 0]) rfl)
  · exact fun t => (k4_off2_eq L t).trans (congrArg (fun n : Nat => ![t.val, n, 0]) rfl)
  · exact fun t => (k4_off5_eq L t).trans (congrArg (fun n : Nat => ![t.val, n]) (by simp only [slabOf, Fin.isValue, Fin.val_zero, Fin.val_one, Fin.val_two]; omega))
  · exact (k4_off1_eq L 1).trans (congrArg (fun n : Nat => ![n, 0]) rfl)
  · exact fun t => (k4_off6_eq L t).trans (congrArg (fun n : Nat => ![t.val, n, 0]) rfl)
  · exact fun t => (k4_off9_eq L t).trans (congrArg (fun n : Nat => ![t.val, n]) (by simp only [slabOf, Fin.isValue, Fin.val_zero, Fin.val_one, Fin.val_two]; omega))
  · exact (k4_off1_eq L 2).trans (congrArg (fun n : Nat => ![n, 0]) rfl)
  · exact fun t => (k4_off10_eq L t).trans (congrArg (fun n : Nat => ![t.val, n, 0]) rfl)
  · exact fun t => (k4_off13_eq L t).trans (congrArg (fun n : Nat => ![t.val, n]) (by simp only [slabOf, Fin.isValue, Fin.val_zero, Fin.val_one, Fin.val_two]; omega))
  · exact (k4_off1_eq L 3).trans (congrArg (fun n : Nat => ![n, 0]) rfl)
  · exact fun t => (k4_off14_eq L t).trans (congrArg (fun n : Nat => ![t.val, n, 0]) rfl)
  · exact fun t => (k4_off17_eq L t).trans (congrArg (fun n : Nat => ![t.val, n]) (by simp only [slabOf, Fin.isValue, Fin.val_zero, Fin.val_one, Fin.val_two]; omega))

end Run

end Cert.KernelIdeal.Work
end
-- ==== Proof.LaunchKernelIdeal.lean ====
/- The whole program's run: the four TensorCore regions and the host's operations, then the SparseCore call, whose
   thirty-two tiles each write four columns' slabs of the result. The arguments come back unchanged, every semaphore at
   zero, and the result is the difference of the gathered rows. -/
module

public import proofs.«01_k».proof.Proof.ValuesKernelIdeal
public import proofs.«01_k».proof.Proof.TileBodyKernelIdeal
public import Idealize.ShloMosaic.Lib.SparseCore.Quiescent

@[expose] public section

noncomputable section

namespace Cert.KernelIdeal.Work

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs)
open Idealize.ShloMosaic.Tactic
open Idealize.ShloMosaic.Transfers (shareTok shareDrop pointsTo_toks)

variable {F : FTy → Type}

local notation "𝕄" => MT nD τ sig (HIx 1) (Elt F) ℕ UU ℕ

/-! ## The arrays of the call, and how the tiles share them -/

abbrev iLoc (d : Dev nD) : Loc nD τ sig := (d.tc : Thread nD τ).loc main_v4
abbrev rLoc (d : Dev nD) : Loc nD τ sig := (d.tc : Thread nD τ).loc main_v3
abbrev xLoc (d : Dev nD) : Loc nD τ sig := (d.tc : Thread nD τ).loc main_v8
abbrev oLoc (d : Dev nD) : Loc nD τ sig := (d.tc : Thread nD τ).loc main_v9

theorem nCore_zero : (K (F := F)).nCore 0 = 2 := rfl
theorem nSub_zero : (K (F := F)).nSub 0 = 16 := rfl

/-- Tile `i` of SparseCore `c`. -/
def coordsV (c : Fin (grid4.bound 0)) (s : Fin (grid4.bound 1)) : grid4.Coords :=
  fun | 0 => c | 1 => s | ⟨_ + 2, h⟩ => absurd h (Nat.not_lt.2 (Nat.le_add_left _ _))

/-- The columns of SparseCore `c`'s tiles. -/
abbrev coreSet (c : Fin 2) : Finset S16x524288.Idx := (Finset.univ : Finset (Fin 16)).biUnion fun i => tileSet (coordsV c i)

theorem mem_tileSet (c : Fin 2) (i : Fin 16) (j : S16x524288.Idx) : j ∈ tileSet (coordsV c i) ↔ (j 1).val / 4096 / 4 = 2 * i.val + c.val := by
  have hs : ∀ s : Fin 4, (slabOf (coordsV c i) s).val = 8 * i.val + 4 * c.val + s.val := fun s => rfl
  simp only [tileSet, slabSet, Finset.mem_biUnion, Finset.mem_univ, true_and, Finset.mem_filter]
  constructor
  · rintro ⟨s, h⟩
    have h' : (j 1).val / 4096 = 8 * i.val + 4 * c.val + s.val := h
    omega
  · intro h
    refine ⟨⟨(j 1).val / 4096 % 4, Nat.mod_lt _ (by omega)⟩, ?_⟩
    show (j 1).val / 4096 = 8 * i.val + 4 * c.val + (j 1).val / 4096 % 4
    omega

theorem tiles_disjoint (c : Fin 2) : ∀ i ∈ (Finset.univ : Finset (Fin 16)), ∀ i' ∈ (Finset.univ : Finset (Fin 16)), i ≠ i' →
    Disjoint (tileSet (coordsV c i)) (tileSet (coordsV c i')) := fun i _ i' _ h =>
  Finset.disjoint_left.mpr fun j hj hj' => h (Fin.ext (by
    have h1 := (mem_tileSet c i j).mp hj; have h2 := (mem_tileSet c i' j).mp hj'; omega))

theorem cores_disjoint : ∀ c ∈ (Finset.univ : Finset (Fin 2)), ∀ c' ∈ (Finset.univ : Finset (Fin 2)), c ≠ c' → Disjoint (coreSet c) (coreSet c') :=
  fun c _ c' _ h => Finset.disjoint_left.mpr fun j hj hj' => h (Fin.ext (by
    obtain ⟨i, -, hi⟩ := Finset.mem_biUnion.mp hj
    obtain ⟨i', -, hi'⟩ := Finset.mem_biUnion.mp hj'
    have h1 := (mem_tileSet c i j).mp hi; have h2 := (mem_tileSet c' i' j).mp hi'; omega))

theorem cores_cover : (Finset.univ : Finset (Fin 2)).biUnion coreSet = Finset.univ := by
  ext j
  simp only [Finset.mem_univ, iff_true, Finset.mem_biUnion, true_and]
  have hj : (j 1).val < 524288 := (j 1).isLt
  refine ⟨⟨(j 1).val / 4096 / 4 % 2, Nat.mod_lt _ (by omega)⟩, ⟨(j 1).val / 4096 / 4 / 2, by omega⟩, ?_⟩
  rw [mem_tileSet]
  show _ = 2 * ((j 1).val / 4096 / 4 / 2) + (j 1).val / 4096 / 4 % 2
  omega

theorem out_cores (d : Dev nD) (f : Buf (Elt F) (oLoc d)) :
    (oLoc d ↦{fullShare} f : sProp 𝕄) = bigSep Finset.univ fun c : Fin 2 => oLoc d ↦[coreSet c]{fullShare} f := by
  have h := pointsTo_biUnion (Val := Elt F) (Ix := HIx 1) (Lvl := ℕ) (Name := ℕ) (U := UU) (ℓ := oLoc d) (q := fullShare) (f := f)
    (Finset.univ : Finset (Fin 2)) coreSet cores_disjoint
  rw [cores_cover] at h; exact h

theorem out_tiles (d : Dev nD) (c : Fin 2) (f : Buf (Elt F) (oLoc d)) :
    (oLoc d ↦[coreSet c]{fullShare} f : sProp 𝕄) = bigSep Finset.univ fun i : Fin 16 => oLoc d ↦[tileSet (coordsV c i)]{fullShare} f :=
  pointsTo_biUnion (Val := Elt F) (Ix := HIx 1) (Lvl := ℕ) (Name := ℕ) (U := UU) (ℓ := oLoc d) (q := fullShare) (f := f)
    (Finset.univ : Finset (Fin 16)) (fun i => tileSet (coordsV c i)) (tiles_disjoint c)

/-- Two assertions each entailing the other are one. -/
theorem bi_eq {P Q : sProp 𝕄} (h : P ⊣⊢ Q) : P = Q := Entails.antisymm h.1 h.2

theorem sep33 (A B C A' B' C' : sProp 𝕄) : (iprop((A ∗ A') ∗ (B ∗ B') ∗ C ∗ C') : sProp 𝕄) = iprop((A ∗ B ∗ C) ∗ A' ∗ B' ∗ C') := by
  have h1 : iprop((A ∗ A') ∗ (B ∗ B') ∗ C ∗ C') ⊢ (iprop((A ∗ B ∗ C) ∗ A' ∗ B' ∗ C') : sProp 𝕄) := by
    iintro ⟨⟨H1, H2⟩, ⟨H3, H4⟩, H5, H6⟩
    isplitl [H1 H3 H5]
    · isplitl [H1]; · iexact H1
      isplitl [H3] <;> iassumption
    isplitl [H2]; · iexact H2
    isplitl [H4] <;> iassumption
  have h2 : iprop((A ∗ B ∗ C) ∗ A' ∗ B' ∗ C') ⊢ (iprop((A ∗ A') ∗ (B ∗ B') ∗ C ∗ C') : sProp 𝕄) := by
    iintro ⟨⟨H1, H3, H5⟩, H2, H4, H6⟩
    isplitl [H1 H2]; · isplitl [H1] <;> iassumption
    isplitl [H3 H4]; · isplitl [H3] <;> iassumption
    isplitl [H5] <;> iassumption
  exact Entails.antisymm h1 h2

section Call

variable [FloatOps F]
variable (fI : Dev nD → IVec S128x4096 32) (fR : Dev nD → FVec F S128x4096 .f32) (fX : Dev nD → FVec F S16x128x4096 .f32) (f0 : Dev nD → FVec F S16x524288 .f32)

/-- A share of the three tables. -/
abbrev tabs (d : Dev nD) (q : PosShare TreeShare) : sProp 𝕄 := iprop((iLoc d ↦{q} fI d) ∗ (rLoc d ↦{q} fR d) ∗ (xLoc d ↦{q} fX d))

theorem tabs_toks (d : Dev nD) (q : PosShare TreeShare) (n : ℕ) :
    (tabs fI fR fX d q : sProp 𝕄) = iprop(tabs fI fR fX d (shareDrop q n) ∗ bigSep Finset.univ fun i : Fin n => tabs fI fR fX d (shareTok q n i)) := by
  have hI := bi_eq (pointsTo_toks (Val := Elt F) (Ix := HIx 1) (Lvl := ℕ) (Name := ℕ) (U := UU) (ℓ := iLoc d) (S := Finset.univ) (f := fI d) q n)
  have hR := bi_eq (pointsTo_toks (Val := Elt F) (Ix := HIx 1) (Lvl := ℕ) (Name := ℕ) (U := UU) (ℓ := rLoc d) (S := Finset.univ) (f := fR d) q n)
  have hX := bi_eq (pointsTo_toks (Val := Elt F) (Ix := HIx 1) (Lvl := ℕ) (Name := ℕ) (U := UU) (ℓ := xLoc d) (S := Finset.univ) (f := fX d) q n)
  unfold tabs
  rw [hI, hR, hX, bigSep_sep', bigSep_sep']
  exact sep33 _ _ _ _ _ _

abbrev coreShare (c : Fin 2) : PosShare TreeShare := shareTok fullShare 2 c
abbrev tileShare (c : Fin 2) (i : Fin 16) : PosShare TreeShare := shareTok (coreShare c) 16 i

/-- What SparseCore `c` is handed, the result at `f`; -/
abbrev corePts (f : Dev nD → FVec F S16x524288 .f32) (d : Dev nD) (c : Fin 2) : sProp 𝕄 :=
  iprop(tabs fI fR fX d (coreShare c) ∗ (oLoc d ↦[coreSet c]{fullShare} f d))
/-- and its tile `i`. -/
abbrev tilePts (f : Dev nD → FVec F S16x524288 .f32) (d : Dev nD) (c : Fin 2) (i : Fin 16) : sProp 𝕄 :=
  iprop(tabs fI fR fX d (tileShare c i) ∗ (oLoc d ↦[tileSet (coordsV c i)]{fullShare} f d))

/-- The result the call leaves. -/
abbrev res (d : Dev nD) : FVec F S16x524288 .f32 := outOf (fI d) (fR d) (fX d)

def P : (K (F := F)).Pay (nD := nD) (Val := Elt F) (Name := ℕ) (U := UU) where
  st := fun q d c => match q with | 0 => corePts fI fR fX f0 d (Fin.cast nCore_zero c)
  dn := fun q d c => match q with | 0 => corePts fI fR fX (res fI fR fX) d (Fin.cast nCore_zero c)
  go := fun q d c i => match q with | 0 => tilePts fI fR fX f0 d (Fin.cast nCore_zero c) (Fin.cast nSub_zero i)
  td := fun q d c i => match q with | 0 => tilePts fI fR fX (res fI fR fX) d (Fin.cast nCore_zero c) (Fin.cast nSub_zero i)
  x := fun _ _ => iprop(emp)

instance P_storable : (P (F := F) fI fR fX f0).IsStorable where
  st q d c := match q with | 0 => (inferInstance : BI.Storable (upEmb : UEmb _ 𝕄) (corePts fI fR fX f0 d (Fin.cast nCore_zero c)))
  dn q d c := match q with | 0 => (inferInstance : BI.Storable (upEmb : UEmb _ 𝕄) (corePts fI fR fX (res fI fR fX) d (Fin.cast nCore_zero c)))
  go q d c i := match q with
    | 0 => (inferInstance : BI.Storable (upEmb : UEmb _ 𝕄) (tilePts fI fR fX f0 d (Fin.cast nCore_zero c) (Fin.cast nSub_zero i)))
  td q d c i := match q with
    | 0 => (inferInstance : BI.Storable (upEmb : UEmb _ 𝕄) (tilePts fI fR fX (res fI fR fX) d (Fin.cast nCore_zero c) (Fin.cast nSub_zero i)))

/-! ## A tile's task -/

theorem defs₀_vector (c : Fin τ.nSC) (s : Fin τ.nSub) :
    defs₀ (F := F) (.scVector c s) 4 ()
      = SparseCore.onTile hcore4 hsub4 (fun c s => cc4__sc_body (coordsV c s) xsA (Memref.isWhole_whole _) rA (Memref.isWhole_whole _) iA (Memref.isWhole_whole _) oA (Memref.isWhole_whole _)
          iS (Memref.isWhole_whole _) rS (Memref.isWhole_whole _) xS (Memref.isWhole_whole _) oS (Memref.isWhole_whole _)
          cc4_scoped0 cc4_scoped1 cc4_scoped2 cc4_scoped3 cc4_scoped4 cc4_scoped5 cc4_scoped6 cc4_scoped7
          cc4_scoped8 cc4_scoped9 cc4_scoped10 cc4_scoped11 cc4_scoped12 cc4_scoped13 cc4_scoped14 cc4_scoped15) ⟨⟩ c s := rfl

theorem tileObl (hfI : ∀ d m, (fI d m).toNat < 4096) : (K (F := F)).TileObl (D (F := F)) 𝒱 (P fI fR fX f0) v₀ 0 := by
  intro d c i O W hO _ _
  simp only [show (P (F := F) fI fR fX f0).ox = fun _ _ => 0 from rfl, add_zero]
  have hci : ((K (F := F)).core 0 c).val < grid4.bound 0 ∧ ((K (F := F)).sub 0 i).val < grid4.bound 1 := ⟨c.isLt, i.isLt⟩
  change _ ⊢ wp _ _ _ (Pipeline.liftProg (defs₀ (F := F) (.scVector ((K (F := F)).core 0 c) ((K (F := F)).sub 0 i)) 4 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hbody := tile_body d (coordsV ⟨_, hci.1⟩ ⟨_, hci.2⟩) (fI d) (fR d) (fX d) (tileShare (Fin.cast nCore_zero c) (Fin.cast nSub_zero i)) O W hO (hfI d) (f0 d)
  refine BI.Entails.trans ?_ (hbody.trans (wp_mono frame _ _ fun _ => ?_))
  · have h : iprop(levAts (K (F := F)).L (K (F := F)).lev ∗ emp ∗ tilePts fI fR fX f0 d (Fin.cast nCore_zero c) (Fin.cast nSub_zero i)
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) O W)
      ⊢ (iprop(levAts (K (F := F)).L (K (F := F)).lev ∗ tilePts fI fR fX f0 d (Fin.cast nCore_zero c) (Fin.cast nSub_zero i)
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) O W) : sProp 𝕄) := by
      iintro ⟨Hl, -, Hr⟩
      isplitl [Hl]; · iexact Hl
      iexact Hr
    exact h
  · have h (R : HIx 1 → Prop) : iprop(tilePts fI fR fX (res fI fR fX) d (Fin.cast nCore_zero c) (Fin.cast nSub_zero i)
        ∗ scopedBufs (V d ((K (F := F)).core 0 c) ((K (F := F)).sub 0 i)) ∗ scopedSems0 (V d ((K (F := F)).core 0 c) ((K (F := F)).sub 0 i))
        ∗ ∃ W', ⌜∀ p ∈ W', p ∈ W ∨ p.2 = none⌝ ∗ owes (V d ((K (F := F)).core 0 c) ((K (F := F)).sub 0 i)) O W')
      ⊢ (iprop(tilePts fI fR fX (res fI fR fX) d (Fin.cast nCore_zero c) (Fin.cast nSub_zero i)
        ∗ scopedBufs (V d ((K (F := F)).core 0 c) ((K (F := F)).sub 0 i)) ∗ scopedSems0 (V d ((K (F := F)).core 0 c) ((K (F := F)).sub 0 i))
        ∗ ∃ W', ⌜∀ p ∈ W', p ∈ W ∨ p.2 = none ∨ R p.2⌝ ∗ owes (V d ((K (F := F)).core 0 c) ((K (F := F)).sub 0 i)) O W') : sProp 𝕄) := by
      iintro ⟨Ht, Hb, Hs, ⟨%W', %hW', HO⟩⟩
      isplitl [Ht]; · iexact Ht
      isplitl [Hb]; · iexact Hb
      isplitl [Hs]; · iexact Hs
      iexists W'; isplitr
      · ipureintro; exact fun p hp => (hW' p hp).imp id Or.inl
      iexact HO
    exact h _

/-! ## A core's share split among its tiles and joined again -/

theorem bigSep_cores (Φ : Fin 2 → sProp 𝕄) : (bigSep Finset.univ fun c : Fin ((K (F := F)).nCore 0) => Φ (Fin.cast nCore_zero c)) = bigSep Finset.univ Φ := rfl
theorem bigSep_tasks (Φ : Fin 16 → sProp 𝕄) : (bigSep Finset.univ fun c : Fin ((K (F := F)).nSub 0) => Φ (Fin.cast nSub_zero c)) = bigSep Finset.univ Φ := rfl

/-- A core's points are what is left of its tables' share beside its tiles' points. -/
theorem core_tiles (f : Dev nD → FVec F S16x524288 .f32) (d : Dev nD) (c : Fin 2) :
    (corePts fI fR fX f d c : sProp 𝕄) = iprop(tabs fI fR fX d (shareDrop (coreShare c) 16) ∗ bigSep Finset.univ fun i : Fin 16 => tilePts fI fR fX f d c i) := by
  unfold corePts tilePts
  rw [tabs_toks fI fR fX d (coreShare c) 16, out_tiles, bigSep_sep' _ (fun i : Fin 16 => tabs fI fR fX d (tileShare c i))]
  exact bi_eq Laws.sep_assoc

/-- The whole tables and result are what is left of the tables beside the cores' points. -/
theorem all_cores (f : Dev nD → FVec F S16x524288 .f32) (d : Dev nD) :
    (iprop(tabs fI fR fX d fullShare ∗ (oLoc d ↦{fullShare} f d)) : sProp 𝕄)
      = iprop(tabs fI fR fX d (shareDrop fullShare 2) ∗ bigSep Finset.univ fun c : Fin 2 => corePts fI fR fX f d c) := by
  unfold corePts
  rw [tabs_toks fI fR fX d fullShare 2, out_cores, bigSep_sep' _ (fun c : Fin 2 => tabs fI fR fX d (coreShare c))]
  exact bi_eq Laws.sep_assoc

theorem vecSplit : (K (F := F)).VecSplit' (P fI fR fX f0) 0 := by
  intro d c
  show corePts fI fR fX f0 d (Fin.cast nCore_zero c) ⊢ |={Set.univ}=> iprop(
      (bigSep Finset.univ fun i : Fin ((K (F := F)).nSub 0) => tilePts fI fR fX f0 d (Fin.cast nCore_zero c) (Fin.cast nSub_zero i))
      ∗ ((bigSep Finset.univ fun i : Fin ((K (F := F)).nSub 0) => tilePts fI fR fX (res fI fR fX) d (Fin.cast nCore_zero c) (Fin.cast nSub_zero i))
          -∗ corePts fI fR fX (res fI fR fX) d (Fin.cast nCore_zero c)))
  rw [bigSep_tasks (F := F) (fun i => tilePts fI fR fX f0 d (Fin.cast nCore_zero c) i),
    bigSep_tasks (F := F) (fun i => tilePts fI fR fX (res fI fR fX) d (Fin.cast nCore_zero c) i), core_tiles, core_tiles]
  iintro ⟨Hk, Ht⟩; imodintro
  isplitl [Ht]; · iexact Ht
  iintro Ht
  isplitl [Hk] <;> iassumption

theorem st0_eq (d : Dev nD) : (bigSep Finset.univ fun c : Fin ((K (F := F)).nCore 0) => (P fI fR fX f0).st 0 d c)
    = bigSep Finset.univ fun c : Fin 2 => corePts fI fR fX f0 d c := bigSep_cores (F := F) fun c => corePts fI fR fX f0 d c
theorem dn0_eq (d : Dev nD) : (bigSep Finset.univ fun c : Fin ((K (F := F)).nCore 0) => (P fI fR fX f0).dn 0 d c)
    = bigSep Finset.univ fun c : Fin 2 => corePts fI fR fX (res fI fR fX) d c := bigSep_cores (F := F) fun c => corePts fI fR fX (res fI fR fX) d c

end Call

end Cert.KernelIdeal.Work
end
-- ==== Proof.RunKernelIdeal.lean ====
/- The run of the whole program, from any launch memory. -/
module

public import proofs.«01_k».proof.Proof.LaunchKernelIdeal

@[expose] public section

noncomputable section

namespace Cert.KernelIdeal.Work

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs)
open Idealize.ShloMosaic.Tactic
open Idealize.ShloMosaic.Transfers (shareTok shareDrop pointsTo_toks)

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The launch memory and what the program makes of it -/

abbrev aLoc (d : Dev nD) : Loc nD τ sig := (d.tc : Thread nD τ).loc main_arg0
abbrev wLoc (d : Dev nD) : Loc nD τ sig := (d.tc : Thread nD τ).loc main_arg1
abbrev pLoc (d : Dev nD) : Loc nD τ sig := (d.tc : Thread nD τ).loc main_arg2

/-- The launch memory, device by device. -/
abbrev W₀ (d : Dev nD) : Valuation τ sig (Elt F) := fun b => m (d, b)

abbrev mI (d : Dev nD) : IVec S128x4096 32 := refOrder (m (wLoc d)) (m (pLoc d))
abbrev mR (d : Dev nD) : FVec F S128x4096 .f32 := refRows (m (wLoc d)) (m (pLoc d))
abbrev mX (d : Dev nD) : FVec F S16x128x4096 .f32 := sampleRows (m (wLoc d)) (m (aLoc d))
abbrev mO (d : Dev nD) : FVec F S16x524288 .f32 := m (oLoc d)

/-- The program's result. -/
def result (w : FVec F S128x128 .f32) (x : FVec F S16x4096x128 .f32) (p : FVec F S4096x128 .f32) : FVec F S16x524288 .f32 :=
  outOf (refOrder w p) (refRows w p) (sampleRows w x)

abbrev PM : (K (F := F)).Pay (nD := nD) (Val := Elt F) (Name := ℕ) (U := UU) := P (mI m) (mR m) (mX m) (mO m)

/-! ## The launch element of the ghost state -/

theorem phinj : Function.Injective (Pipeline.cellOf (nD := nD) (τ := τ) (Pipeline.pin (pcfgs (F := F)) adm)) := cellOf_inj

def u₀ : UU := (initOf (K (F := F)).hsCells (K (F := F)).hsToks, (initOf (Pipeline.cells (Pipeline.pin (pcfgs (F := F)) adm) phinj) (Pipeline.launchToks (Pipeline.pin (pcfgs (F := F)) adm) phinj), 1))

/-- What the launch deals a device's pipelines. -/
abbrev G (d : Dev nD) : sProp 𝕄 := Pipeline.ghostOn (pcfgs (F := F)) adm EP Finset.univ d

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PM m).x q thr) := by
  unfold u₀
  iintro Hu
  ihave H := (ownU_pair (initOf (K (F := F)).hsCells (K (F := F)).hsToks) _) $$ Hu
  icases H with ⟨HH, HR⟩
  ihave H2 := (own_pair_emb embR _ _) $$ HR
  icases H2 with ⟨HP, -⟩
  imod (Pipeline.fund_ghost (Pipeline.pin (pcfgs (F := F)) adm) (EP (F := F)) phinj) $$ HP with ⟨Hg, Ht⟩
  imodintro
  isplitl [HH]; · iexact HH
  isplitl [Hg Ht]
  · have hG : (bigSep Finset.univ fun d : Dev nD => G (F := F) d)
        = (iprop((bigSep Finset.univ fun c : Dev nD => bigSep Finset.univ fun p => Pipeline.cellsGhost (Pipeline.pin (pcfgs (F := F)) adm) (EP (F := F)) p c)
          ∗ (bigSep Finset.univ fun c : Dev nD => bigSep Finset.univ fun p => Pipeline.toksInit (Pipeline.pin (pcfgs (F := F)) adm) (EP (F := F)) p c)) : sProp 𝕄) := by
      rw [← bigSep_sep']
      exact bigSep_congr fun c _ => bigSep_sep' _ _ _
    iapply (Entails.of_eq hG.symm)
    isplitl [Hg] <;> iassumption
  rw [show (bigSep Finset.univ fun thr : Thread nD τ => bigSep Finset.univ fun q : Fin 1 => (PM m).x q thr) = bigSep Finset.univ fun _ => iprop(emp) from
    bigSep_congr fun _ _ => bigSep_univ_of_subsingleton (0 : Fin 1)]
  iapply (Entails.of_eq (bigSep_emp_const _).symm)
  iempintro

/-! ## @main on the TensorCore -/

/-- What the TensorCore's state at the start of the calls says of what it owes. -/
theorem tcSt_open (d : Dev nD) : ∃ R : sProp 𝕄, (K (F := F)).tcSt EH d 0
    = iprop((∃ Wd, ⌜(K (F := F)).WBelow (T d) Wd (8 * 0)⌝ ∗ owes (T d) ((K (F := F)).Otc d 0) Wd) ∗ R) := ⟨_, rfl⟩

theorem below_zero (d : Dev nD) (Wd : Finset (SemLoc sig × HIx 1)) : (K (F := F)).WBelow (T d) Wd (8 * 0) ↔ ∀ p ∈ Wd, p.2 = none := by
  refine forall_congr' fun p => forall_congr' fun _ => ?_
  rcases p with ⟨c, _ | q⟩
  · simp [SparseCore.Cfg.lev]
  · simp [SparseCore.Cfg.lev]

/-- The arguments and the result, as the program leaves them. -/
abbrev FIN (d : Dev nD) : sProp 𝕄 :=
  iprop((oLoc d ↦{fullShare} (result (m (wLoc d)) (m (aLoc d)) (m (pLoc d)) : FVec F S16x524288 .f32))
    ∗ (aLoc d ↦{fullShare} m (aLoc d)) ∗ (wLoc d ↦{fullShare} m (wLoc d)) ∗ (pLoc d ↦{fullShare} m (pLoc d)))

omit [FloatOps F] in
theorem mem_uc {r : Ref sig .tc} (h : (Proc.devRef .tc r : DevRef τ sig).isScoped = false) : Proc.devRef .tc r ∈ ucRefs τ sig :=
  Finset.mem_filter.mpr ⟨StableHlo.devRef_mem_tcRefs r, by simp [h]⟩

/-- The device's buffers before the call: the call's four arrays and the arguments beside the rest. -/
theorem held_call (d : Dev nD) : ∃ R : sProp 𝕄, (held (d.tc : Thread nD τ) (ucRefs τ sig) (V6 (W₀ m) d) : sProp 𝕄)
    = iprop(((iLoc d ↦{fullShare} mI m d) ∗ (rLoc d ↦{fullShare} mR m d) ∗ (xLoc d ↦{fullShare} mX m d) ∗ (oLoc d ↦{fullShare} mO m d))
        ∗ (aLoc d ↦{fullShare} m (aLoc d)) ∗ (wLoc d ↦{fullShare} m (wLoc d)) ∗ (pLoc d ↦{fullShare} m (pLoc d)) ∗ R) := by
  obtain ⟨s', e1, hs'⟩ := take4' (F := F) (s := ucRefs τ sig) (a := Proc.devRef .tc main_v4) (b := Proc.devRef .tc main_v3) (c := Proc.devRef .tc main_v8) (d := Proc.devRef .tc main_v9)
    (mem_uc (by decide)) (mem_uc (by decide)) (mem_uc (by decide)) (mem_uc (by decide)) (by decide) (by decide) (by decide) (by decide) (by decide) (by decide)
    (fun b : DevRef τ sig => ((d, b) : Loc nD τ sig) ↦{fullShare} V6 (W₀ m) d b)
  have h0 : Proc.devRef .tc main_arg0 ∈ s' := hs' _ (mem_uc (by decide)) (by decide) (by decide) (by decide) (by decide)
  have h1 : Proc.devRef .tc main_arg1 ∈ s'.erase (Proc.devRef .tc main_arg0) :=
    Finset.mem_erase.mpr ⟨by decide, hs' _ (mem_uc (by decide)) (by decide) (by decide) (by decide) (by decide)⟩
  have h2 : Proc.devRef .tc main_arg2 ∈ (s'.erase (Proc.devRef .tc main_arg0)).erase (Proc.devRef .tc main_arg1) :=
    Finset.mem_erase.mpr ⟨by decide, Finset.mem_erase.mpr ⟨by decide, hs' _ (mem_uc (by decide)) (by decide) (by decide) (by decide) (by decide)⟩⟩
  rw [SparseCore.bigSep_erase' h0, SparseCore.bigSep_erase' h1, SparseCore.bigSep_erase' h2, V6_arg0, V6_arg1, V6_arg2, V6_v9, V6_v8, V6_v4, V6_v3] at e1
  exact ⟨_, e1⟩

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_open (F := F) d
  obtain ⟨R', hR'⟩ := held_call m d
  unfold SparseCore.Cfg.tcRes SparseCore.Cfg.tcEnd
  rw [main_eq (W₀ m) d, wp_bind]
  have hsegs := Pipeline.wp_segs (pcfgs (F := F)) adm (pdats (W₀ m)) (none : HIx 1) phinj EP (defs₀ (F := F)) 𝒱₀ (K (F := F)).L (K (F := F)).lev d
    (Q := fun _ => wp frame (wpE ((K (F := F)).defs (D (F := F))) 𝒱 (SparseCore.T d) none) Set.univ ((sc (F := F)).run d 0)
      fun _ => iprop((K (F := F)).tcSt EH d 1 ∗ FIN m d ∗ boundary (T d) ∗ (K (F := F)).tcSems0 d))
    (segs (W₀ m)) Finset.univ _ _ (show ([0, 1, 2, 3] : List (Fin 4)).Nodup by decide) (fun _ _ => Finset.mem_univ _) (segs_chain (W₀ m))
  have hlift := hsegs.trans ((K (F := F)).wp_liftProg (D (F := F)) 𝒱 (T d) Set.univ none _ _)
  refine BI.Entails.trans ?_ hlift
  have h : iprop((K (F := F)).ctx EH (PM m) κ ∗ (K (F := F)).tcSt EH d 0 ∗ (boundary (T d) ∗ unscopedBufs d (fun b => m ((d.tc : Thread nD τ).loc b)) ∗ (K (F := F)).tcSems0 d ∗ prngReg d (ρ d)) ∗ G (F := F) d)
    ⊢ (iprop((iprop(boundary (d.tc : Thread nD τ) ∗ held (d.tc : Thread nD τ) (ucRefs τ sig) (V6 (W₀ m) d) ∗ debt d)
          -∗ wp frame (wpE ((K (F := F)).defs (D (F := F))) 𝒱 (SparseCore.T d) none) Set.univ ((sc (F := F)).run d 0)
            fun _ => iprop((K (F := F)).tcSt EH d 1 ∗ FIN m d ∗ boundary (T d) ∗ (K (F := F)).tcSems0 d))
        ∗ boundary (d.tc : Thread nD τ) ∗ (held (d.tc : Thread nD τ) (ucRefs τ sig) (W₀ m d) ∗ debt d) ∗ levAts (K (F := F)).L (K (F := F)).lev ∗ G (F := F) d) : sProp 𝕄) := by
    rw [hR]
    iintro ⟨#Hctx, ⟨⟨%Wd, %hWd, HO⟩, HR⟩, ⟨Hb, Hub, Hts, -⟩, HG⟩
    ihave Hlev := (SparseCore.Cfg.ctx_levAts (K := K (F := F)) κ) $$ Hctx
    isplitl [HR Hts]
    · iintro ⟨Hb, Hh, ⟨%Wd', %hWd', HO⟩⟩
      iapply ((K (F := F)).wp_run (D (F := F)) 𝒱 (EH := EH) (P := PM m) κ d 0)
      ihave Hh' := (Entails.of_eq hR') $$ Hh
      icases Hh' with ⟨⟨HI, HRr, HX, Ho⟩, Ha, Hw, Hp, -⟩
      ihave Hall := (Entails.of_eq (all_cores (mI m) (mR m) (mX m) (mO m) d)) $$ [HI HRr HX Ho]
      · isplitr [Ho]
        · isplitl [HI]; · iexact HI
          isplitl [HRr] <;> iassumption
        iexact Ho
      icases Hall with ⟨Hk, Hst⟩
      isplitr; · iexact Hctx
      isplitl [HO HR]
      · iapply (Entails.of_eq hR.symm)
        isplitl [HO]
        · iexists Wd'; isplitr
          · ipureintro; exact (below_zero d Wd').mpr hWd'
          iexact HO
        iexact HR
      isplitl [Hst]
      · rw [st0_eq]; iexact Hst
      iintro ⟨Hst1, Hdn⟩
      ihave Hdn' := (Entails.of_eq (dn0_eq (mI m) (mR m) (mX m) (mO m) d)) $$ Hdn
      ihave Hall := (Entails.of_eq (all_cores (mI m) (mR m) (mX m) (res (mI m) (mR m) (mX m)) d).symm) $$ [Hk Hdn']
      · isplitl [Hk] <;> iassumption
      icases Hall with ⟨-, Ho⟩
      isplitl [Hst1]; · iexact Hst1
      isplitl [Ho Ha Hw Hp]
      · isplitl [Ho]; · iexact Ho
        isplitl [Ha]; · iexact Ha
        isplitl [Hw] <;> iassumption
      isplitl [Hb] <;> iassumption
    isplitl [Hb]; · iexact Hb
    isplitl [Hub HO]
    · isplitl [Hub]
      · iapply (Entails.of_eq (Pipeline.unscopedBufs_held d (W₀ m d))); iexact Hub
      iexists Wd; isplitr
      · ipureintro; exact (below_zero d Wd).mp hWd
      iexact HO
    isplitl [Hlev] <;> iassumption
  exact h

/-! ## The run -/

def fq (d : Dev nD) (s' : Phys nD τ sig (Elt F)) : Prop :=
  s'.mem.mem (oLoc d) = result (m (wLoc d)) (m (aLoc d)) (m (pLoc d)) ∧ s'.mem.mem (aLoc d) = m (aLoc d) ∧ s'.mem.mem (wLoc d) = m (wLoc d) ∧ s'.mem.mem (pLoc d) = m (pLoc d)

theorem read_whole (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨Ho, Ha, Hw, Hp⟩, HSI⟩
  ihave H := (read_whole _ _ s') $$ [HSI Ho]
  · isplitl [HSI] <;> iassumption
  icases H with ⟨%h1, HSI⟩
  ihave H := (read_whole _ _ s') $$ [HSI Ha]
  · isplitl [HSI] <;> iassumption
  icases H with ⟨%h2, HSI⟩
  ihave H := (read_whole _ _ s') $$ [HSI Hw]
  · isplitl [HSI] <;> iassumption
  icases H with ⟨%h3, HSI⟩
  ihave H := (read_whole _ _ s') $$ [HSI Hp]
  · isplitl [HSI] <;> iassumption
  icases H with ⟨%h4, HSI⟩
  ipureintro
  exact ⟨h1, h2, h3, h4⟩

def QC : PUnit × MemSt nD τ sig (Elt F) → Prop := fun r =>
  (∀ d : Dev nD, r.2.mem (oLoc d) = result (m (wLoc d)) (m (aLoc d)) (m (pLoc d)) ∧ r.2.mem (aLoc d) = m (aLoc d) ∧ r.2.mem (wLoc d) = m (wLoc d) ∧ r.2.mem (pLoc d) = m (pLoc d))
    ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (mI m) (mR m) (mX m) (mO m) fun d j => refOrder_lt _ _ j)
    (fun q _ => match q with | 0 => SparseCore.Cfg.VecSplit.of_plain (vecSplit (mI m) (mR m) (mX m) (mO m)))
    m ρ main G (FIN m) (u₀ (F := F)) (sep_elim_left.trans (hu₀ m)) (hmain m ρ) (fq m) (hfin m) (QC m) (fun _ h hz => ⟨h, hz⟩)

end Cert.KernelIdeal.Work
end
-- ==== Proof.Listing.lean ====
/- The network's rows and the stable sort's order: both list a row in ascending order, and where the rows carry their
   lane numbers to break ties, both list the same lanes. -/
module

public import proofs.«01_k».proof.Proof.Network
public import Idealize.ShloMosaic.Lib.SortFacts
public import Mathlib.Data.Prod.Lex

@[expose] public section

noncomputable section

namespace Cert.Network

open Idealize.ShloMosaic

variable {α : Type} [LinearOrder α]

/-- The lanes of a row in ascending order of what they hold, equal ones in their own order. -/
def order {N : ℕ} (x : Fin N → α) : Fin N → Fin N := sortedFrom fun k k' => decide (x k < x k')

/-- A sort meets two elements only with the later one as the first argument. -/
theorem stableSort_later {ι : Type} {R R' : ι → ι → Bool} : ∀ {l : List ι}, l.Pairwise (fun a b => R b a = R' b a) →
    stableSort R l = stableSort R' l
  | [], _ => rfl
  | a :: l, h => by
    rw [List.pairwise_cons] at h
    unfold stableSort
    rw [stableSort_later h.2]
    exact insertBefore_congr R R' a _ fun b hb => h.1 b ((perm_stableSort R' l).mem_iff.mp hb)

/-- A lane with its number: what a stable sort orders without ties. -/
def tagged {N : ℕ} (x : Fin N → α) (k : Fin N) : α ×ₗ ℤ := toLex (x k, (k.val : ℤ))

theorem order_tagged {N : ℕ} (x : Fin N → α) : order x = order (tagged x) := by
  have h : (List.finRange N).Pairwise fun a b : Fin N => decide (x b < x a) = decide (tagged x b < tagged x a) :=
    (List.pairwise_lt_finRange N).imp fun {a b} hab => by
      rw [decide_eq_decide, tagged, tagged, Prod.Lex.toLex_lt_toLex]
      have : ¬((b.val : ℤ) < a.val) := by have : a.val < b.val := hab; omega
      simp [this]
  have e : sortPositions N (fun k k' => decide (x k < x k')) = sortPositions N (fun k k' => decide (tagged x k < tagged x k')) :=
    stableSort_later h
  funext k
  unfold order sortedFrom
  rw [List.get_of_eq e]
  rfl

/-- The order is a permutation of the lanes, -/
def orderPerm {N : ℕ} (x : Fin N → α) : Equiv.Perm (Fin N) :=
  Equiv.ofBijective (order x) ⟨sortedFrom_injective _, sortedFrom_surjective _⟩

/-- along which the row ascends. -/
theorem order_mono {N : ℕ} (x : Fin N → α) : Monotone fun i => x (order x i) := fun i j hij => by
  rcases eq_or_lt_of_le hij with rfl | h
  · exact le_rfl
  · have := sortedFrom_noInversion (fun k k' => decide (x k < x k')) (fun k k' => decide (x k < x k'))
      (fun a b hab => by simp only [decide_eq_true_eq] at hab; simpa using hab.le) (fun _ _ h => h)
      (fun a b c hab hbc => by simp only [decide_eq_false_iff_not, not_lt] at *; exact hbc.trans hab) i j h
    exact not_lt.mp (of_decide_eq_false this)

/-- A row of the network is the row in its order, -/
theorem run_order (lt : α → α → Bool) (hlt : ∀ x y, lt x y = decide (x < y)) (f : ℕ → α) (i : Fin 4096) :
    run lt f 78 i = f (order (fun k : Fin 4096 => f k) i) := by
  obtain rfl : lt = ltL := funext fun x => funext fun y => hlt x y
  rw [show 78 = before 12 from rfl, ← sorted_run]
  exact sorted_eq (n := 12) f (orderPerm fun k : Fin 4096 => f k) (order_mono fun k : Fin 4096 => f k) i

/-- and a row whose lanes carry keys that tell the lanes of the stable sort apart is listed by the stable sort. -/
theorem run_key {β : Type} (key : β → α ×ₗ ℤ) (lt : β → β → Bool) (hlt : ∀ x y, lt x y = decide (key x < key y))
    (x : Fin 4096 → α) (f : ℕ → β) (hf : ∀ k : Fin 4096, key (f k) = tagged x k) (i : Fin 4096) :
    key (run lt f 78 i) = tagged x (order x i) := by
  have h1 := congrFun (key_sorted key lt hlt f 12) i
  have e : (fun k : Fin 4096 => key (f k)) = tagged x := funext hf
  rw [show 78 = before 12 from rfl, ← sorted_run]
  refine h1.trans ?_
  rw [order_tagged, ← hf]
  have := sorted_eq (n := 12) (fun i => key (f i)) (orderPerm (tagged x)) (by
    have := order_mono (tagged x)
    rwa [← e] at this ⊢) i
  exact this

end Cert.Network
-- ==== Proof.Algebra.lean ====
/- The kernel's result over the extended reals, element by element: a projected reference point less the projected
   sample of the same rank. -/
module

public import proofs.«01_k».proof.Proof.RunKernelIdeal
public import proofs.«01_k».proof.Proof.Listing
public import Idealize.ShloMosaic.PureOps.Ideal.Laws
public import Idealize.ShloMosaic.Lib.Pointwise.Contract

@[expose] public section

noncomputable section

namespace Cert.Algebra

open Idealize.ShloMosaic hiding ix2 ix3
open Cert.KernelIdeal Cert.KernelIdeal.Gen
open Cert.KernelIdeal.Work (ix2 ix3 ltF ltP seqOf sortRows argsortRows projAll unitRows refRows refOrder sampleRows outOf result)
open Cert.Network
open scoped BigOperators

/-- The points `p`, projected on the direction `s` of `w`. -/
def slice (w : S128x128.Idx → EReal) (p : S4096x128.Idx → EReal) (s : Fin 128) (k : Fin 4096) : EReal :=
  ∑ d : Fin 128, p (ix2 k d) * w (ix2 s d)

/-- One batch of the samples. -/
def batch (x : S16x4096x128.Idx → EReal) (b : Fin 16) : S4096x128.Idx → EReal := fun i => x (ix3 b (i 0) (i 1))

/-- A row, ascending. -/
def ascending (r : Fin 4096 → EReal) (k : Fin 4096) : EReal := r (order r k)

/-- One element of the result: batch `b`, direction `s`, reference point `k`. -/
def entry (w : S128x128.Idx → EReal) (x : S16x4096x128.Idx → EReal) (p : S4096x128.Idx → EReal) (b : Fin 16) (s : Fin 128) (k : Fin 4096) : EReal :=
  slice w p s k - ascending (slice w (batch x b) s) (order (slice w p s) k)

theorem project_apply (w : FVec Ideal S128x128 .f32) (p : FVec Ideal S4096x128 .f32) (s : Fin 128) (k : Fin 4096) :
    matmul dot_S128x128_S4096x128_S128x4096_1_1_0_0_n_n none w p (constant (F := Ideal) S128x4096 .f32 0x00000000#32) (ix2 s k) = slice w p s k := by
  refine (Ideal.matmul_constant_zero_apply _ none w p _).trans ?_
  rw [dot_S128x128_S4096x128_S128x4096_1_1_0_0_n_n.sum_contr₁ (a := 1) rfl (K := 128) rfl]
  refine Finset.sum_congr rfl fun d _ => ?_
  rw [mul_comm]
  congr 2 <;> funext a <;> match a with
    | ⟨0, _⟩ => rfl
    | ⟨1, _⟩ => rfl

theorem refRows_apply (w : FVec Ideal S128x128 .f32) (p : FVec Ideal S4096x128 .f32) (s : Fin 128) (k : Fin 4096) :
    refRows w p (ix2 s k) = slice (unitRows w) p s k := by
  unfold refRows k0_pay1
  rw [shapeCast_self]
  exact project_apply _ _ s k

theorem projAll_apply (w : FVec Ideal S128x128 .f32) (x : FVec Ideal S16x4096x128 .f32) (b : Fin 16) (s : Fin 128) (k : Fin 4096) :
    projAll (F := Ideal) w x (ix3 b s k) = slice w (batch x b) s k := by
  unfold projAll k2_pay1
  rw [shapeCast_self]
  refine (shapeCast_apply _ shapeCasts_S128x4096_S1x128x4096 _ (ix2 s k) (by
    rw [Shape.rowMajor_val_three, Shape.rowMajor_val_two]
    show s.val * 4096 + k.val = (0 * 128 + s.val) * 4096 + k.val
    omega)).trans ?_
  rw [project_apply]
  refine congrArg (fun p => slice w p s k) (funext fun i => ?_)
  exact shapeCast_apply _ shapeCasts_S1x4096x128_S4096x128 i (ix3 (n := 1) 0 (i 0) (i 1)) (by
    rw [Shape.rowMajor_val_three, Shape.rowMajor_val_two]
    show (0 * 4096 + (i 0).val) * 128 + (i 1).val = (i 0).val * 128 + (i 1).val
    omega)

theorem ltF_ideal (x y : Ideal .f32) : ltF x y = decide (x < y) := by
  unfold ltF
  rw [Ideal.cmpf_def]
  unfold Ideal.cmp
  cases decide (x < y) <;> rfl

theorem sortRows_apply (x : Vec Ideal S2048x4096 .f32) (r : Fin 2048) (k : Fin 4096) :
    sortRows x (ix2 r k) = ascending (fun i => x (ix2 r i)) k := by
  have e : (fun i : Fin 4096 => seqOf x r i) = fun i => x (ix2 r i) := funext fun i => by
    unfold seqOf
    rw [Fin.ofNat_val_eq_self]
  refine (run_order ltF ltF_ideal (seqOf x r) k).trans ?_
  rw [e]
  exact congrFun e _

/-- What the argsort compares: a value and then its lane's number. -/
def lane (v : Ideal .f32 × BitVec 32) : EReal ×ₗ ℤ := toLex (v.1, v.2.toInt)

theorem ltP_ideal (x y : Ideal .f32 × BitVec 32) : ltP x y = decide (lane x < lane y) := by
  unfold ltP lane
  rw [Ideal.cmpf_def, Ideal.cmpf_def]
  unfold Ideal.cmp IntOp.cmpi IntOp.ori IntOp.andi
  have h : ∀ a b c : Bool, (BitVec.ofBool a ||| (BitVec.ofBool b &&& BitVec.ofBool c) == 1#1) = (a || (b && c)) := by decide
  rw [h, decide_eq_decide.mpr Prod.Lex.toLex_lt_toLex, Bool.decide_or, Bool.decide_and]
  rfl

theorem argsortRows_apply (x : Vec Ideal S128x4096 .f32) (r : Fin 128) (k : Fin 4096) :
    argsortRows x (ix2 r k) = BitVec.ofNat 32 (order (fun i => x (ix2 r i)) k).val := by
  have hv : ∀ k : Fin 4096, (BitVec.ofNat 32 k.val).toInt = (k.val : ℤ) := fun k => by
    have := k.isLt
    rw [BitVec.toInt_eq_toNat_of_lt (by rw [BitVec.toNat_ofNat]; omega), BitVec.toNat_ofNat]
    omega
  have h := run_key lane ltP ltP_ideal (fun i => x (ix2 r i)) (fun i => (seqOf x r i, BitVec.ofNat 32 i)) (fun k => by
    unfold lane tagged seqOf
    rw [Fin.ofNat_val_eq_self, hv]) k
  have h2 : (argsortRows x (ix2 r k)).toInt = ((order (fun i => x (ix2 r i)) k).val : ℤ) := congrArg (fun v => (ofLex v).2) h
  exact BitVec.eq_of_toInt_eq (h2.trans (hv _).symm)

theorem refOrder_apply (w : FVec Ideal S128x128 .f32) (p : FVec Ideal S4096x128 .f32) (s : Fin 128) (k : Fin 4096) :
    refOrder w p (ix2 s k) = BitVec.ofNat 32 (order (slice (unitRows w) p s) k).val := by
  unfold refOrder
  rw [argsortRows_apply]
  simp only [refRows_apply]

theorem sampleRows_apply (w : FVec Ideal S128x128 .f32) (x : FVec Ideal S16x4096x128 .f32) (b : Fin 16) (s : Fin 128) (k : Fin 4096) :
    sampleRows w x (ix3 b s k) = ascending (slice (unitRows w) (batch x b) s) k := by
  have hr : b.val * 128 + s.val < 2048 := by omega
  unfold sampleRows
  refine (shapeCast_apply _ shapeCasts_S2048x4096_S16x128x4096 _ (ix2 ⟨b.val * 128 + s.val, hr⟩ k) (by
    rw [Shape.rowMajor_val_three, Shape.rowMajor_val_two]; rfl)).trans ?_
  rw [sortRows_apply]
  refine congrArg (fun r => ascending r k) (funext fun i => ?_)
  rw [← projAll_apply]
  exact shapeCast_apply _ shapeCasts_S16x128x4096_S2048x4096 _ (ix3 b s i) (by
    rw [Shape.rowMajor_val_three, Shape.rowMajor_val_two]; rfl)

/-- The kernel's result, element by element. -/
theorem result_apply (w : FVec Ideal S128x128 .f32) (x : FVec Ideal S16x4096x128 .f32) (p : FVec Ideal S4096x128 .f32) (b : Fin 16) (s : Fin 128) (k : Fin 4096)
    (h : 4096 * s.val + k.val < 524288) : result w x p (ix2 b ⟨4096 * s.val + k.val, h⟩) = entry (unitRows w) x p b s k := by
  have hk := k.isLt
  have e1 : (⟨(4096 * s.val + k.val) / 4096, by omega⟩ : Fin 128) = s := Fin.ext (by show _ / 4096 = _; omega)
  have e2 : (Fin.ofNat 4096 (4096 * s.val + k.val) : Fin 4096) = k := Fin.ext (by show _ % 4096 = _; omega)
  have e3 : ∀ i : Fin 4096, (Fin.ofNat 4096 (BitVec.ofNat 32 i.val).toNat : Fin 4096) = i := fun i => Fin.ext (by
    have := i.isLt
    show (BitVec.ofNat 32 i.val).toNat % 4096 = i.val
    rw [BitVec.toNat_ofNat]; omega)
  show FloatOps.subf (refRows w p (ix2 ⟨(4096 * s.val + k.val) / 4096, _⟩ (Fin.ofNat 4096 (4096 * s.val + k.val))))
    (sampleRows w x (ix3 b ⟨(4096 * s.val + k.val) / 4096, _⟩
      (Fin.ofNat 4096 (refOrder w p (ix2 ⟨(4096 * s.val + k.val) / 4096, _⟩ (Fin.ofNat 4096 (4096 * s.val + k.val)))).toNat))) = _
  rw [e1, e2, refRows_apply, refOrder_apply, e3, sampleRows_apply]
  rfl

end Cert.Algebra
-- ==== Proof.Reference.lean ====
/- The reference's result over the extended reals, element by element: the same entry of the projections as the kernel's. -/
module

public import proofs.«01_k».proof.Proof.Algebra
public import proofs.«01_k».proof.Proof.Gen.ReferenceIdeal.Run

@[expose] public section

noncomputable section

namespace Cert.Algebra

open Idealize.ShloMosaic hiding ix2 ix3
open Cert.ReferenceIdeal Cert.ReferenceIdeal.Gen
open Cert.KernelIdeal.Work (ix2 ix3 unitRows)
open Cert.Network
open scoped BigOperators

/-! ## The comparators -/

theorem before_ideal (l r : Ideal .f32) : comparator_f32_d1 l r = BitVec.ofBool (decide (l < r)) := by
  have h : ∀ v : EReal, Scalar.select (Ideal.cmp .une v v) (Ideal.ofBits .f32 0x7FC00000#32)
      (Scalar.select (Ideal.cmp .oeq v (Ideal.ofBits .f32 0x00000000#32)) (Ideal.ofBits .f32 0x00000000#32) v) = v := fun v => by
    rw [Ideal.ofBits_zero_f32]
    unfold Scalar.select Ideal.cmp
    by_cases h0 : v = 0 <;> simp [h0]
  exact congrArg₂ (Ideal.cmp .olt) (h l) (h r)

theorem beforePair_ideal (l r : Ideal .f32 × BitVec 32) : comparator_f32_i32_d1 l r = BitVec.ofBool (decide (l.1 < r.1)) :=
  before_ideal l.1 r.1

theorem ofBool_eq (b : Bool) : (BitVec.ofBool b == 1#1) = b := by cases b <;> rfl

/-! ## Sorting along the middle axis -/

theorem along_mid (b : Fin 16) (k : Fin 4096) (s : Fin 128) (i : Fin 4096) :
    Shape.Idx.along (s := S16x4096x128) (ix3 b k s) 1 i = ix3 b i s := by
  funext a
  match a with
  | ⟨0, _⟩ => rfl
  | ⟨1, _⟩ => rfl
  | ⟨2, _⟩ => rfl

theorem sort_mid (x : FVec Ideal S16x4096x128 .f32) (b : Fin 16) (k : Fin 4096) (s : Fin 128) :
    Host.sort S16x4096x128 1 comparator_f32_d1 x (ix3 b k s) = ascending (fun i => x (ix3 b i s)) k := by
  show x (Shape.Idx.along (s := S16x4096x128) (ix3 b k s) 1 (sortedFrom (fun i i' : Fin 4096 =>
    comparator_f32_d1 (x (Shape.Idx.along (s := S16x4096x128) (ix3 b k s) 1 i)) (x (Shape.Idx.along (s := S16x4096x128) (ix3 b k s) 1 i')) == 1#1) k)) = _
  simp only [along_mid, before_ideal, ofBool_eq]
  exact congrArg x (along_mid b k s _)

theorem sort_pair_mid (x : FVec Ideal S16x4096x128 .f32) (y : IVec S16x4096x128 32) (b : Fin 16) (k : Fin 4096) (s : Fin 128) :
    (Host.sort2 S16x4096x128 1 comparator_f32_i32_d1 x y).2 (ix3 b k s) = y (ix3 b (order (fun i => x (ix3 b i s)) k) s) := by
  show y (Shape.Idx.along (s := S16x4096x128) (ix3 b k s) 1 (sortedFrom (fun i i' : Fin 4096 =>
    comparator_f32_i32_d1
      (x (Shape.Idx.along (s := S16x4096x128) (ix3 b k s) 1 i), y (Shape.Idx.along (s := S16x4096x128) (ix3 b k s) 1 i))
      (x (Shape.Idx.along (s := S16x4096x128) (ix3 b k s) 1 i'), y (Shape.Idx.along (s := S16x4096x128) (ix3 b k s) 1 i')) == 1#1) k)) = _
  simp only [along_mid, beforePair_ideal, ofBool_eq]
  exact congrArg y (along_mid b k s _)

theorem argsort_mid (x : FVec Ideal S16x4096x128 .f32) (b : Fin 16) (k : Fin 4096) (s : Fin 128) :
    (Host.sort2 S16x4096x128 1 comparator_f32_i32_d1 x (iotaInDim S16x4096x128 32 1)).2 (ix3 b k s)
      = BitVec.ofNat 32 (order (fun i => x (ix3 b i s)) k).val :=
  sort_pair_mid x _ b k s

/-! ## Taking along the middle axis -/

/-- The indices as the gather reads them: a negative one counts from the end. -/
def wrapped (idx : IVec S16x4096x128 32) : IVec S16x4096x128x1 32 :=
  shapeCast S16x4096x128x1 (select (cmpi .slt idx (broadcastInDim S16x4096x128 ![] bcast_S_S16x4096x128 (constantI S_ 32 0#32)))
    (addi idx (broadcastInDim S16x4096x128 ![] bcast_S_S16x4096x128 (constantI S_ 32 4096#32))) idx) shapeCasts_S16x4096x128_S16x4096x128x1

/-- Which of them lie in the axis. -/
def within (idx : IVec S16x4096x128 32) : IVec S16x4096x128 1 :=
  Host.reduce IntOp.andi (andi (cmpi .sge (wrapped idx) (broadcastInDim S16x4096x128x1 ![] bcast_S_S16x4096x128x1 (constantI S_ 32 0#32)))
    (cmpi .sle (wrapped idx) (broadcastInDim S16x4096x128x1 ![0, 1, 2, 3] bcast_S1x1x1x1_S16x4096x128x1_0_1_2_3
      (broadcastInDim S1x1x1x1 ![3] bcast_S1_S1x1x1x1_3 (constantI S1 32 4095#32))))) (constantI S_ 1 1#1)
    reducesTo_S16x4096x128x1_S16x4096x128_d3 h_S_

/-- `x` at `idx` along the middle axis. -/
def taken (x : FVec Ideal S16x4096x128 .f32) (idx : IVec S16x4096x128 32) : FVec Ideal S16x4096x128 .f32 :=
  select (within idx) (Host.gather gather_S16x4096x128_S16x4096x128x1_S16x4096x128_n_1_02_02_1_3_111 x (wrapped idx))
    (broadcastInDim S16x4096x128 ![] bcast_S_S16x4096x128 (constant S_ .f32 0x7FC00000#32))

/-- An index with a last axis of one. -/
abbrev ix4 (b : Fin 16) (k : Fin 4096) (s : Fin 128) : S16x4096x128x1.Idx := fun | ⟨0, _⟩ => b | ⟨1, _⟩ => k | ⟨2, _⟩ => s | ⟨3, _⟩ => ⟨0, Nat.one_pos⟩

theorem eq_ix3 (j : S16x4096x128.Idx) : ∃ b k s, j = ix3 b k s := by
  refine ⟨j 0, j 1, j 2, ?_⟩
  funext a
  match a with
  | ⟨0, _⟩ => rfl
  | ⟨1, _⟩ => rfl
  | ⟨2, _⟩ => rfl

theorem eq_ix4 (j : S16x4096x128x1.Idx) : ∃ b k s, j = ix4 b k s := by
  refine ⟨j 0, j 1, j 2, ?_⟩
  funext a
  match a with
  | ⟨0, _⟩ => rfl
  | ⟨1, _⟩ => rfl
  | ⟨2, _⟩ => rfl
  | ⟨3, _⟩ => exact Subsingleton.elim (α := Fin 1) _ _

theorem toInt_small {v : BitVec 32} (h : v.toNat < 4096) : v.toInt = v.toNat :=
  BitVec.toInt_eq_toNat_of_lt (by omega)

variable {idx : IVec S16x4096x128 32} (hidx : ∀ j, (idx j).toNat < 4096)
include hidx

theorem wrapped_apply (b : Fin 16) (k : Fin 4096) (s : Fin 128) : wrapped idx (ix4 b k s) = idx (ix3 b k s) := by
  refine (shapeCast_apply _ shapeCasts_S16x4096x128_S16x4096x128x1 _ (ix3 b k s) (by
    rw [Shape.rowMajor_val_three, Shape.rowMajor_val_four]
    show (b.val * 4096 + k.val) * 128 + s.val = ((b.val * 4096 + k.val) * 128 + s.val) * 1 + 0
    omega)).trans ?_
  have h : ¬(idx (ix3 b k s)).toInt < 0 := by rw [toInt_small (hidx _)]; omega
  show Scalar.select (IntOp.cmpi .slt (idx (ix3 b k s)) 0#32) _ _ = _
  unfold Scalar.select IntOp.cmpi
  simp [BitVec.slt, h]

theorem within_apply (j : S16x4096x128.Idx) : within idx j = 1#1 := by
  have hm : ∀ i, (andi (cmpi .sge (wrapped idx) (broadcastInDim S16x4096x128x1 ![] bcast_S_S16x4096x128x1 (constantI S_ 32 0#32)))
    (cmpi .sle (wrapped idx) (broadcastInDim S16x4096x128x1 ![0, 1, 2, 3] bcast_S1x1x1x1_S16x4096x128x1_0_1_2_3
      (broadcastInDim S1x1x1x1 ![3] bcast_S1_S1x1x1x1_3 (constantI S1 32 4095#32))))) i = 1#1 := fun i => by
    obtain ⟨b, k, s, rfl⟩ := eq_ix4 i
    show IntOp.andi (IntOp.cmpi .sge (wrapped idx (ix4 b k s)) 0#32) (IntOp.cmpi .sle (wrapped idx (ix4 b k s)) 4095#32) = 1#1
    rw [wrapped_apply hidx]
    have h := hidx (ix3 b k s)
    have h1 := toInt_small h
    unfold IntOp.andi IntOp.cmpi
    simp only [BitVec.sle, h1]
    rw [show (4095#32).toInt = 4095 from rfl, show (0#32).toInt = 0 from rfl,
      decide_eq_true (show (0 : ℤ) ≤ (idx (ix3 b k s)).toNat by omega),
      decide_eq_true (show ((idx (ix3 b k s)).toNat : ℤ) ≤ 4095 by omega)]
    rfl
  unfold within Host.reduce
  generalize List.filter _ _ = l
  have : ∀ (l : List (Fin S16x4096x128x1.numel)), l.foldl (fun r n => IntOp.andi r (1#1)) (1#1) = 1#1 := fun l => by
    induction l with
    | nil => rfl
    | cons a l ih => exact ih
  simp only [hm]
  exact this l

theorem taken_apply (x : FVec Ideal S16x4096x128 .f32) (b : Fin 16) (k : Fin 4096) (s : Fin 128) :
    taken x idx (ix3 b k s) = x (ix3 b ⟨(idx (ix3 b k s)).toNat, hidx _⟩ s) := by
  unfold taken select
  rw [within_apply hidx]
  rw [show ∀ u v : Ideal .f32, Scalar.select 1#1 u v = u from fun _ _ => rfl]
  unfold Host.gather
  refine congrArg x (funext fun a => Fin.ext ?_)
  show GatherDims.start gather_S16x4096x128_S16x4096x128x1_S16x4096x128_n_1_02_02_1_3_111 (ix3 b k s) (wrapped idx) a
    + GatherDims.batchCoord gather_S16x4096x128_S16x4096x128x1_S16x4096x128_n_1_02_02_1_3_111 (ix3 b k s) a
    + GatherDims.offCoord gather_S16x4096x128_S16x4096x128x1_S16x4096x128_n_1_02_02_1_3_111 (ix3 b k s) a = _
  have ho : GatherDims.offCoord gather_S16x4096x128_S16x4096x128x1_S16x4096x128_n_1_02_02_1_3_111 (ix3 b k s) a = 0 :=
    GatherDims.offCoord_eq_zero _ _ _ fun h => by
      have h := (GatherDims.mem_sKept _ _).mp h
      revert h
      revert a
      decide
  rw [ho, Nat.add_zero]
  match a with
  | ⟨0, _⟩ =>
    rw [GatherDims.start_batching _ _ _ _ (List.mem_cons_self ..), Nat.zero_add]
    rfl
  | ⟨2, _⟩ =>
    rw [GatherDims.start_batching _ _ _ _ (List.mem_cons_of_mem _ (List.mem_cons_self ..)), Nat.zero_add]
    rfl
  | ⟨1, _⟩ =>
    rw [GatherDims.batchCoord_eq_zero _ _ _ (show (1 : Fin 3) ∉ ([0, 2] : List (Fin 3)) by decide), Nat.add_zero]
    unfold GatherDims.start
    refine (dif_pos (show (1 : Fin 3) ∈ ([1] : List (Fin 3)) by decide)).trans ?_
    have hsi : GatherDims.siIdx gather_S16x4096x128_S16x4096x128x1_S16x4096x128_n_1_02_02_1_3_111 (ix3 b k s) ⟨0, by decide⟩ = ix4 b k s := by
      funext c
      refine Fin.ext ?_
      match c with
      | ⟨0, _⟩ => rfl
      | ⟨1, _⟩ => rfl
      | ⟨2, _⟩ => rfl
      | ⟨3, _⟩ => rfl
    show min (wrapped idx (GatherDims.siIdx gather_S16x4096x128_S16x4096x128x1_S16x4096x128_n_1_02_02_1_3_111 (ix3 b k s) ⟨0, _⟩)).toInt.toNat 4095 = _
    rw [hsi, wrapped_apply hidx, toInt_small (hidx _), Int.toNat_natCast]
    have := hidx (ix3 b k s)
    exact Nat.min_eq_left (by omega)

omit hidx

/-! ## The reference's projections -/

/-- The reference's projection of the batch. -/
def refX (w : FVec Ideal S128x128 .f32) (x : FVec Ideal S16x4096x128 .f32) : FVec Ideal S16x4096x128 .f32 :=
  Host.dotGeneral dot_S16x4096x128_S128x128_S16x4096x128_2_1_01_0_n_n none x w

/-- The reference's projection of the reference points, repeated for every sample. -/
def refP (w : FVec Ideal S128x128 .f32) (p : FVec Ideal S4096x128 .f32) : FVec Ideal S16x4096x128 .f32 :=
  broadcastInDim S16x4096x128 ![0, 1, 2] bcast_S1x4096x128_S16x4096x128_0_1_2 (broadcastInDim S1x4096x128 ![1, 2] bcast_S4096x128_S1x4096x128_1_2
    (Host.dotGeneral dot_S4096x128_S128x128_S4096x128_1_0_0_1_n_n none p (transpose S128x128 [1, 0] w transposes_S128x128_S128x128_1_0)))

theorem refX_apply (w : FVec Ideal S128x128 .f32) (x : FVec Ideal S16x4096x128 .f32) (b : Fin 16) (k : Fin 4096) (s : Fin 128) :
    refX w x (ix3 b k s) = slice w (batch x b) s k := by
  unfold refX
  simp only [Host.dotGeneral]
  refine (Ideal.dotGeneral_apply _ _ _ _ _ _).trans ?_
  rw [dot_S16x4096x128_S128x128_S16x4096x128_2_1_01_0_n_n.sum_contr₁ (a := 2) rfl (K := 128) rfl]
  refine Finset.sum_congr rfl fun d _ => ?_
  refine congrArg₂ (fun u v : EReal => u * v) (congrArg x ?_) (congrArg w ?_)
  · funext a
    match a with
    | ⟨0, _⟩ => rfl
    | ⟨1, _⟩ => rfl
    | ⟨2, _⟩ => rfl
  · funext a
    match a with
    | ⟨0, _⟩ => rfl
    | ⟨1, _⟩ => rfl

theorem refP_apply (w : FVec Ideal S128x128 .f32) (p : FVec Ideal S4096x128 .f32) (b : Fin 16) (k : Fin 4096) (s : Fin 128) :
    refP w p (ix3 b k s) = slice w p s k := by
  have e : refP w p (ix3 b k s) = Host.dotGeneral dot_S4096x128_S128x128_S4096x128_1_0_0_1_n_n none p
      (transpose S128x128 [1, 0] w transposes_S128x128_S128x128_1_0) (ix2 k s) := by
    unfold refP
    refine (broadcastInDim_apply _ _ _ _ (fun | ⟨0, _⟩ => ⟨0, Nat.one_pos⟩ | ⟨1, _⟩ => k | ⟨2, _⟩ => s) ?_).trans
      (broadcastInDim_apply _ _ _ _ _ ?_)
    · intro a
      match a with
      | ⟨0, _⟩ => rfl
      | ⟨1, _⟩ => rfl
      | ⟨2, _⟩ => rfl
    · intro a
      match a with
      | ⟨0, _⟩ => rfl
      | ⟨1, _⟩ => rfl
  rw [e]
  simp only [Host.dotGeneral]
  refine (Ideal.dotGeneral_apply _ _ _ _ _ _).trans ?_
  rw [dot_S4096x128_S128x128_S4096x128_1_0_0_1_n_n.sum_contr₁ (a := 1) rfl (K := 128) rfl]
  refine Finset.sum_congr rfl fun d _ => ?_
  refine congrArg₂ (fun u v : EReal => u * v) (congrArg p ?_) (transpose_apply _ _ _ _ (ix2 s d) ?_)
  · funext a
    match a with
    | ⟨0, _⟩ => rfl
    | ⟨1, _⟩ => rfl
  · intro a
    match a with
    | ⟨0, _⟩ => rfl
    | ⟨1, _⟩ => rfl

/-! ## The reference's result -/

/-- The reference's result from the three inputs. -/
def refResult (w : FVec Ideal S128x128 .f32) (x : FVec Ideal S16x4096x128 .f32) (p : FVec Ideal S4096x128 .f32) : FVec Ideal S16x524288 .f32 :=
  shapeCast S16x524288 (transpose S16x128x4096 [0, 2, 1] (subf (refP (unitRows w) p)
    (taken (Host.sort S16x4096x128 1 comparator_f32_d1 (refX (unitRows w) x))
      (Host.sort2 S16x4096x128 1 comparator_f32_i32_d1 (refP (unitRows w) p) (iotaInDim S16x4096x128 32 1)).2))
    transposes_S16x4096x128_S16x128x4096_0_2_1) shapeCasts_S16x128x4096_S16x524288

theorem refResult_apply (w : FVec Ideal S128x128 .f32) (x : FVec Ideal S16x4096x128 .f32) (p : FVec Ideal S4096x128 .f32) (b : Fin 16) (s : Fin 128)
    (k : Fin 4096) (h : 4096 * s.val + k.val < 524288) : refResult w x p (ix2 b ⟨4096 * s.val + k.val, h⟩) = entry (unitRows w) x p b s k := by
  generalize hi : (Host.sort2 S16x4096x128 1 comparator_f32_i32_d1 (refP (unitRows w) p) (iotaInDim S16x4096x128 32 1)).2 = idx
  have hv : ∀ b k s, (idx (ix3 b k s)).toNat = (order (slice (unitRows w) p s) k).val := fun b k s => by
    rw [← hi, argsort_mid, BitVec.toNat_ofNat]
    simp only [refP_apply]
    exact Nat.mod_eq_of_lt (by have := (order (slice (unitRows w) p s) k).isLt; omega)
  have hidx : ∀ j, (idx j).toNat < 4096 := fun j => by
    obtain ⟨b, k, s, rfl⟩ := eq_ix3 j
    rw [hv]
    exact Fin.isLt _
  unfold refResult
  rw [hi]
  refine (shapeCast_apply _ shapeCasts_S16x128x4096_S16x524288 _ (ix3 b s k) (by
    rw [Shape.rowMajor_val_three, Shape.rowMajor_val_two]
    show (b.val * 128 + s.val) * 4096 + k.val = b.val * 524288 + (4096 * s.val + k.val)
    omega)).trans ?_
  refine (transpose_apply _ _ _ _ (ix3 b k s) (fun a => by
    match a with
    | ⟨0, _⟩ => rfl
    | ⟨1, _⟩ => rfl
    | ⟨2, _⟩ => rfl)).trans ?_
  have hs : ∀ (u v : FVec Ideal S16x4096x128 .f32) (j : S16x4096x128.Idx) (e f : EReal), u j = e → v j = f → subf u v j = e - f := fun u v j e f h h' => by
    subst h h'; rfl
  refine hs _ _ _ _ _ (refP_apply _ _ _ _ _) ?_
  rw [taken_apply hidx, sort_mid]
  simp only [refX_apply]
  exact congrArg (ascending (slice (unitRows w) (batch x b) s)) (Fin.ext (hv b k s))

theorem refResult_eq (w : FVec Ideal S128x128 .f32) (x : FVec Ideal S16x4096x128 .f32) (p : FVec Ideal S4096x128 .f32) :
    refResult w x p = Cert.KernelIdeal.Work.result w x p := by
  funext j
  obtain ⟨b, s, k, h, rfl⟩ : ∃ (b : Fin 16) (s : Fin 128) (k : Fin 4096) (h : 4096 * s.val + k.val < 524288), j = ix2 b ⟨4096 * s.val + k.val, h⟩ := by
    have hj : (j 1).val < 524288 := (j 1).isLt
    refine ⟨j 0, ⟨(j 1).val / 4096, by omega⟩, ⟨(j 1).val % 4096, Nat.mod_lt _ (by omega)⟩, by show 4096 * (_ / 4096) + _ % 4096 < _; omega, ?_⟩
    funext a
    match a with
    | ⟨0, _⟩ => rfl
    | ⟨1, _⟩ => exact Fin.ext (Nat.div_add_mod (j 1).val 4096).symm
  rw [refResult_apply, result_apply]

/-- The reference program's result is that function of its arguments. -/
theorem reference_result (m : (ℓ : Loc nD τ sig) → Buf (Elt Ideal) ℓ) (c : Dev nD) :
    Cert.ReferenceIdeal.Value.res_main_v13 m c = refResult (m ((c.tc : Thread nD τ).loc main_arg1)) (m ((c.tc : Thread nD τ).loc main_arg0))
      (m ((c.tc : Thread nD τ).loc main_arg2)) :=
  rfl

end Cert.Algebra
-- ==== Proof.lean ====
/- The claims of this certificate: the kernel and its idealization run to the end from any memory, leave their
   arguments as they were and every semaphore at zero; the reference does too; the idealization keeps the kernel's
   text; and over the extended reals the kernel's result is the reference's. -/
module

public import proofs.«01_k».proof.Defs
public import proofs.«01_k».proof.Proof.RunKernel
public import proofs.«01_k».proof.Proof.RunKernelIdeal
public import proofs.«01_k».proof.Proof.Reference
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The kernel at the bits of its floats runs, keeps its arguments and leaves every counter at zero. -/
theorem kernel_runs : Cert.quiescent_Kernel (hKernel := Cert.Kernel.Gen.facts) := fun m ρ _ =>
  (θ_run _ _ _).mono (fun _ h => ⟨fun c => ⟨(h.1 c).2.1, (h.1 c).2.2.1, (h.1 c).2.2.2⟩, h.2⟩)
    (Cert.Kernel.Work.run_main (F := Bits) m ρ)

/-- The same of the kernel read over the extended reals. -/
theorem ideal_runs : Cert.quiescent_KernelIdeal (hKernelIdeal := Cert.KernelIdeal.Gen.facts) := fun m ρ _ =>
  (θ_run _ _ _).mono (fun _ h => ⟨fun c => ⟨(h.1 c).2.1, (h.1 c).2.2.1, (h.1 c).2.2.2⟩, h.2⟩)
    (Cert.KernelIdeal.Work.run_main (F := Ideal) m ρ)

/-- The reference runs and keeps its arguments; it declares no semaphore. -/
theorem reference_runs : Cert.quiescent_ReferenceIdeal (hReferenceIdeal := Cert.ReferenceIdeal.Gen.facts) :=
  fun m ρ _ =>
    letI := Cert.ReferenceIdeal.Gen.facts
    (θ_run _ _ _).mono (fun r h => ⟨fun c => (h c).2, sem_eq_zero_of_no_sems (by decide) r.2⟩)
      (Cert.ReferenceIdeal.Value.run (F := Ideal) m ρ)

/-- From the same arguments the kernel read over the extended reals and the reference end with the same result. -/
theorem results_agree : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Work.result (F := Ideal) (m (Cert.KernelIdeal.Work.wLoc c)) (m (Cert.KernelIdeal.Work.aLoc c)) (m (Cert.KernelIdeal.Work.pLoc c)),
    (θ_run _ _ _).mono (fun _ h c => ⟨(h.1 c).1, (h.1 c).2.1, (h.1 c).2.2.1, (h.1 c).2.2.2⟩) (Cert.KernelIdeal.Work.run_main (F := Ideal) m g),
    (θ_run _ _ _).mono (fun _ h c => ⟨(h c).1.trans ?_, (h c).2⟩) (Cert.ReferenceIdeal.Value.run (F := Ideal) m' g')⟩
  rw [Cert.Algebra.reference_result, (hargs c).1, (hargs c).2.1, (hargs c).2.2]
  exact Cert.Algebra.refResult_eq _ _ _

theorem claim : Cert.Claim :=
  ⟨Cert.Kernel.Gen.facts, Cert.KernelIdeal.Gen.facts, Cert.ReferenceIdeal.Gen.facts,
    kernel_runs, ideal_runs, reference_runs, trivial, results_agree⟩

end Cert.Proof

end
